-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v3) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S8x2048x2048 : Shape := ⟨3, ![8, 2048, 2048]⟩
abbrev S2x2048x2048 : Shape := ⟨3, ![2, 2048, 2048]⟩
abbrev S2 : Shape := ⟨1, ![2]⟩
abbrev S1 : Shape := ⟨1, ![1]⟩
abbrev S_ : Shape := ⟨0, ![]⟩
abbrev S1x2048x2048 : Shape := ⟨3, ![1, 2048, 2048]⟩
abbrev S2048x2048 : Shape := ⟨2, ![2048, 2048]⟩
abbrev S1x2048 : Shape := ⟨2, ![1, 2048]⟩
abbrev S1024x2048 : Shape := ⟨2, ![1024, 2048]⟩
abbrev S1024 : Shape := ⟨1, ![1024]⟩
abbrev S1024x1 : Shape := ⟨2, ![1024, 1]⟩
abbrev S2048 : Shape := ⟨1, ![2048]⟩

abbrev nBuf : Space → Nat
  | .hbm => 2
  | .vmem => 1
  | .smem => 0
  | _ => 0

abbrev bufTy : (tb : Table) → Fin (tcTables nBuf tb) → BufTy
  | .hbm, ⟨0, _⟩ => ⟨S8x2048x2048, .f32⟩
  | .hbm, ⟨1, _⟩ => ⟨S8x2048x2048, .f32⟩
  | .local _ .vmem, ⟨0, _⟩ => ⟨S2x2048x2048, .f32⟩
  | _, _ => ⟨S8x2048x2048, .f32⟩

abbrev bufScoped : (cs : CoreSpace) → Fin (nBuf (.core cs)) → Bool
  | .vmem, ⟨0, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_scratch0 : Ref sig .tc := ⟨.vmem, 0, rfl⟩

abbrev nD : Nat := 1
abbrev τ : Topo := Topo.v7x

variable {F : FTy → Type} [FloatOps F]

abbrev grid0 : Pipeline.Grid := ⟨1, ![8], ![false]⟩

def k0_off1 (i : grid0.Coords) : Fin 1 → Nat :=
  let arg0 : BitVec 32 := BitVec.ofNat 32 (i 0).val
  let c2_i32 : BitVec 32 := 2#32
  let v0 : BitVec 32 := Scalar.remsi arg0 c2_i32
  ![v0.toNat]
def k0_off2 (i : grid0.Coords) : Fin 3 → Nat :=
  let arg0 : BitVec 32 := BitVec.ofNat 32 (i 0).val
  let c2_i32 : BitVec 32 := 2#32
  let v0 : BitVec 32 := Scalar.remsi arg0 c2_i32
  let c0_i32_1 : BitVec 32 := 0#32
  let c0_i32_2 : BitVec 32 := 0#32
  ![v0.toNat, 0, 0]
def k0_off3 (i : grid0.Coords) : Fin 3 → Nat :=
  let arg0 : BitVec 32 := BitVec.ofNat 32 (i 0).val
  let c0_i32_3 : BitVec 32 := 0#32
  let c0_i32_4 : BitVec 32 := 0#32
  ![arg0.toNat, 0, 0]
@[reducible] def k0_t1_loop : Scf.Loop 32 :=
  let c0_i32_5 : BitVec 32 := 0#32
  let c2_i32_6 : BitVec 32 := 2#32
  let v12 : BitVec 32 := Scalar.addi c0_i32_5 c2_i32_6
  let c1_i32_7 : BitVec 32 := 1#32
  ⟨c0_i32_5, v12, c1_i32_7⟩
def k0_off4 (i : grid0.Coords) : Fin 3 → Nat :=
  let arg0 : BitVec 32 := BitVec.ofNat 32 (i 0).val
  let c2_i32 : BitVec 32 := 2#32
  let v0 : BitVec 32 := Scalar.remsi arg0 c2_i32
  let c0_i32_30 : BitVec 32 := 0#32
  let c0_i32_31 : BitVec 32 := 0#32
  ![v0.toNat, 0, 0]
def k0_off5 (k0_t1 : Fin k0_t1_loop.trips) : Fin 2 → Nat :=
  let c0_i32_5 : BitVec 32 := 0#32
  let c1_i32_7 : BitVec 32 := 1#32
  let arg6 : BitVec 32 := Scf.iv c0_i32_5 c1_i32_7 k0_t1
  let c1024_i32 : BitVec 32 := 1024#32
  let v39 : BitVec 32 := Scalar.muli arg6 c1024_i32
  let v42 : Index := Scalar.indexCast v39
  let c0 : Index := 0#32
  ![v42.toNat, 0]
@[reducible] def k0_t2_loop : Scf.Loop 32 :=
  let c0_i32_10 : BitVec 32 := 0#32
  let c18_i32 : BitVec 32 := 18#32
  let v16 : BitVec 32 := Scalar.addi c0_i32_10 c18_i32
  let c1_i32_11 : BitVec 32 := 1#32
  ⟨c0_i32_10, v16, c1_i32_11⟩
@[reducible] def k0_t3_loop : Scf.Loop 32 :=
  let c0_i32_31 : BitVec 32 := 0#32
  let c2_i32_32 : BitVec 32 := 2#32
  let v40 : BitVec 32 := Scalar.addi c0_i32_31 c2_i32_32
  let c1_i32_33 : BitVec 32 := 1#32
  ⟨c0_i32_31, v40, c1_i32_33⟩
def k0_off6 (i : grid0.Coords) : Fin 3 → Nat :=
  let arg0 : BitVec 32 := BitVec.ofNat 32 (i 0).val
  let c2_i32 : BitVec 32 := 2#32
  let v0 : BitVec 32 := Scalar.remsi arg0 c2_i32
  let c0_i32_36 : BitVec 32 := 0#32
  let c0_i32_37 : BitVec 32 := 0#32
  ![v0.toNat, 0, 0]
def k0_off7 (k0_t3 : Fin k0_t3_loop.trips) : Fin 2 → Nat :=
  let c0_i32_31 : BitVec 32 := 0#32
  let c1_i32_33 : BitVec 32 := 1#32
  let arg8 : BitVec 32 := Scf.iv c0_i32_31 c1_i32_33 k0_t3
  let c1024_i32 : BitVec 32 := 1024#32
  let v44 : BitVec 32 := Scalar.muli arg8 c1024_i32
  let v47 : Index := Scalar.indexCast v44
  let c0 : Index := 0#32
  ![v47.toNat, 0]
@[reducible] def k0_t4_loop : Scf.Loop 32 :=
  let c0_i32_13 : BitVec 32 := 0#32
  let c2_i32_14 : BitVec 32 := 2#32
  let v19 : BitVec 32 := Scalar.addi c0_i32_13 c2_i32_14
  let c1_i32_15 : BitVec 32 := 1#32
  ⟨c0_i32_13, v19, c1_i32_15⟩
def k0_off8 (i : grid0.Coords) : Fin 3 → Nat :=
  let arg0 : BitVec 32 := BitVec.ofNat 32 (i 0).val
  let c2_i32 : BitVec 32 := 2#32
  let v0 : BitVec 32 := Scalar.remsi arg0 c2_i32
  let c0_i32_30 : BitVec 32 := 0#32
  let c0_i32_31 : BitVec 32 := 0#32
  ![v0.toNat, 0, 0]
def k0_off9 (k0_t4 : Fin k0_t4_loop.trips) : Fin 2 → Nat :=
  let c0_i32_13 : BitVec 32 := 0#32
  let c1_i32_15 : BitVec 32 := 1#32
  let arg6 : BitVec 32 := Scf.iv c0_i32_13 c1_i32_15 k0_t4
  let c1024_i32 : BitVec 32 := 1024#32
  let v39 : BitVec 32 := Scalar.muli arg6 c1024_i32
  let v42 : Index := Scalar.indexCast v39
  let c0 : Index := 0#32
  ![v42.toNat, 0]
@[reducible] def k0_t5_loop : Scf.Loop 32 :=
  let c0_i32_18 : BitVec 32 := 0#32
  let c2_i32_19 : BitVec 32 := 2#32
  let v24 : BitVec 32 := Scalar.addi c0_i32_18 c2_i32_19
  let c1_i32_20 : BitVec 32 := 1#32
  ⟨c0_i32_18, v24, c1_i32_20⟩
def k0_off10 (i : grid0.Coords) : Fin 3 → Nat :=
  let arg0 : BitVec 32 := BitVec.ofNat 32 (i 0).val
  let c2_i32 : BitVec 32 := 2#32
  let v0 : BitVec 32 := Scalar.remsi arg0 c2_i32
  let c0_i32_30 : BitVec 32 := 0#32
  let c0_i32_31 : BitVec 32 := 0#32
  ![v0.toNat, 0, 0]
def k0_off11 (k0_t5 : Fin k0_t5_loop.trips) : Fin 2 → Nat :=
  let c0_i32_18 : BitVec 32 := 0#32
  let c1_i32_20 : BitVec 32 := 1#32
  let arg6 : BitVec 32 := Scf.iv c0_i32_18 c1_i32_20 k0_t5
  let c1024_i32 : BitVec 32 := 1024#32
  let v39 : BitVec 32 := Scalar.muli arg6 c1024_i32
  let v42 : Index := Scalar.indexCast v39
  let c0 : Index := 0#32
  ![v42.toNat, 0]
def k0_cond2 (i : grid0.Coords) : BitVec 1 :=
  let arg0 : BitVec 32 := BitVec.ofNat 32 (i 0).val
  let c1_i32_26 : BitVec 32 := 1#32
  let v31 : BitVec 1 := Scalar.cmpi .sge arg0 c1_i32_26
  let c7_i32 : BitVec 32 := 7#32
  let v32 : BitVec 1 := Scalar.cmpi .slt arg0 c7_i32
  let v33 : BitVec 1 := Scalar.andi v31 v32
  let v34 : BitVec 32 := Scalar.extui v33
  let c0_i32_27 : BitVec 32 := 0#32
  let v35 : BitVec 1 := Scalar.cmpi .ne v34 c0_i32_27
  v35

def k0_off12 (i : grid0.Coords) : Fin 1 → Nat :=
  let c1_i32 : BitVec 32 := 1#32
  let arg0 : BitVec 32 := BitVec.ofNat 32 (i 0).val
  let c2_i32 : BitVec 32 := 2#32
  let v0 : BitVec 32 := Scalar.remsi arg0 c2_i32
  let v1 : BitVec 32 := Scalar.subi c1_i32 v0
  ![v1.toNat]
def k0_off13 (i : grid0.Coords) : Fin 3 → Nat :=
  let arg0 : BitVec 32 := BitVec.ofNat 32 (i 0).val
  let c1_i32_30 : BitVec 32 := 1#32
  let v39 : BitVec 32 := Scalar.subi arg0 c1_i32_30
  let c0_i32_31 : BitVec 32 := 0#32
  let c0_i32_32 : BitVec 32 := 0#32
  ![v39.toNat, 0, 0]
def k0_off14 (i : grid0.Coords) : Fin 3 → Nat :=
  let c1_i32 : BitVec 32 := 1#32
  let arg0 : BitVec 32 := BitVec.ofNat 32 (i 0).val
  let c2_i32 : BitVec 32 := 2#32
  let v0 : BitVec 32 := Scalar.remsi arg0 c2_i32
  let v1 : BitVec 32 := Scalar.subi c1_i32 v0
  let c0_i32_33 : BitVec 32 := 0#32
  let c0_i32_34 : BitVec 32 := 0#32
  ![v1.toNat, 0, 0]
def k0_off15 (i : grid0.Coords) : Fin 3 → Nat :=
  let arg0 : BitVec 32 := BitVec.ofNat 32 (i 0).val
  let c1_i32_35 : BitVec 32 := 1#32
  let v46 : BitVec 32 := Scalar.addi arg0 c1_i32_35
  let c0_i32_38 : BitVec 32 := 0#32
  let c0_i32_39 : BitVec 32 := 0#32
  ![v46.toNat, 0, 0]
def k0_cond3 (i : grid0.Coords) : BitVec 1 :=
  let arg0 : BitVec 32 := BitVec.ofNat 32 (i 0).val
  let c7_i32_28 : BitVec 32 := 7#32
  let v36 : BitVec 1 := Scalar.cmpi .eq arg0 c7_i32_28
  let v37 : BitVec 32 := Scalar.extui v36
  let c0_i32_29 : BitVec 32 := 0#32
  let v38 : BitVec 1 := Scalar.cmpi .ne v37 c0_i32_29
  v38

def k0_off16 (i : grid0.Coords) : Fin 1 → Nat :=
  let c1_i32 : BitVec 32 := 1#32
  let arg0 : BitVec 32 := BitVec.ofNat 32 (i 0).val
  let c2_i32 : BitVec 32 := 2#32
  let v0 : BitVec 32 := Scalar.remsi arg0 c2_i32
  let v1 : BitVec 32 := Scalar.subi c1_i32 v0
  ![v1.toNat]
def k0_off17 (i : grid0.Coords) : Fin 3 → Nat :=
  let arg0 : BitVec 32 := BitVec.ofNat 32 (i 0).val
  let c1_i32_30 : BitVec 32 := 1#32
  let v39 : BitVec 32 := Scalar.subi arg0 c1_i32_30
  let c0_i32_31 : BitVec 32 := 0#32
  let c0_i32_32 : BitVec 32 := 0#32
  ![v39.toNat, 0, 0]
def k0_off18 (i : grid0.Coords) : Fin 3 → Nat :=
  let c1_i32 : BitVec 32 := 1#32
  let arg0 : BitVec 32 := BitVec.ofNat 32 (i 0).val
  let c2_i32 : BitVec 32 := 2#32
  let v0 : BitVec 32 := Scalar.remsi arg0 c2_i32
  let v1 : BitVec 32 := Scalar.subi c1_i32 v0
  let c0_i32_33 : BitVec 32 := 0#32
  let c0_i32_34 : BitVec 32 := 0#32
  ![v1.toNat, 0, 0]
def k0_off19 (i : grid0.Coords) : Fin 1 → Nat :=
  let arg0 : BitVec 32 := BitVec.ofNat 32 (i 0).val
  let c2_i32 : BitVec 32 := 2#32
  let v0 : BitVec 32 := Scalar.remsi arg0 c2_i32
  ![v0.toNat]
def k0_off20 (i : grid0.Coords) : Fin 3 → Nat :=
  let arg0 : BitVec 32 := BitVec.ofNat 32 (i 0).val
  let c0_i32_35 : BitVec 32 := 0#32
  let c0_i32_36 : BitVec 32 := 0#32
  ![arg0.toNat, 0, 0]
def k0_off21 (i : grid0.Coords) : Fin 3 → Nat :=
  let arg0 : BitVec 32 := BitVec.ofNat 32 (i 0).val
  let c2_i32 : BitVec 32 := 2#32
  let v0 : BitVec 32 := Scalar.remsi arg0 c2_i32
  let c0_i32_37 : BitVec 32 := 0#32
  let c0_i32_38 : BitVec 32 := 0#32
  ![v0.toNat, 0, 0]
-- ==== ReferenceIdeal.lean ====
abbrev S8x2048x2048 : Shape := ⟨3, ![8, 2048, 2048]⟩
abbrev S_ : Shape := ⟨0, ![]⟩
abbrev S8x2048 : Shape := ⟨2, ![8, 2048]⟩
abbrev S8x2048x1 : Shape := ⟨3, ![8, 2048, 1]⟩
abbrev S8x1x2048 : Shape := ⟨3, ![8, 1, 2048]⟩

abbrev nBuf : Space → Nat
  | .hbm => 58
  | .vmem => 0
  | .smem => 0
  | _ => 0

abbrev bufTy : (tb : Table) → Fin (tcTables nBuf tb) → BufTy
  | .hbm, ⟨0, _⟩ => ⟨S8x2048x2048, .f32⟩
  | .hbm, ⟨1, _⟩ => ⟨S_, .f32⟩
  | .hbm, ⟨2, _⟩ => ⟨S8x2048x2048, .f32⟩
  | .hbm, ⟨3, _⟩ => ⟨S8x2048x2048, .f32⟩
  | .hbm, ⟨4, _⟩ => ⟨S_, .i32⟩
  | .hbm, ⟨5, _⟩ => ⟨S_, .i32⟩
  | .hbm, ⟨6, _⟩ => ⟨S_, .i32⟩
  | .hbm, ⟨7, _⟩ => ⟨S_, .i32⟩
  | .hbm, ⟨8, _⟩ => ⟨S8x2048x2048, .f32⟩
  | .hbm, ⟨9, _⟩ => ⟨S_, .i32⟩
  | .hbm, ⟨10, _⟩ => ⟨S_, .i1⟩
  | .hbm, ⟨11, _⟩ => ⟨S_, .i32⟩
  | .hbm, ⟨12, _⟩ => ⟨S_, .i32⟩
  | .hbm, ⟨13, _⟩ => ⟨S_, .f32⟩
  | .hbm, ⟨14, _⟩ => ⟨S8x2048, .f32⟩
  | .hbm, ⟨15, _⟩ => ⟨S8x2048x1, .f32⟩
  | .hbm, ⟨16, _⟩ => ⟨S8x2048x1, .f32⟩
  | .hbm, ⟨17, _⟩ => ⟨S_, .f32⟩
  | .hbm, ⟨18, _⟩ => ⟨S8x2048x1, .f32⟩
  | .hbm, ⟨19, _⟩ => ⟨S8x2048x1, .i1⟩
  | .hbm, ⟨20, _⟩ => ⟨S_, .f32⟩
  | .hbm, ⟨21, _⟩ => ⟨S_, .f32⟩
  | .hbm, ⟨22, _⟩ => ⟨S8x2048x1, .f32⟩
  | .hbm, ⟨23, _⟩ => ⟨S8x2048x1, .f32⟩
  | .hbm, ⟨24, _⟩ => ⟨S8x2048x2048, .f32⟩
  | .hbm, ⟨25, _⟩ => ⟨S8x2048x2048, .f32⟩
  | .hbm, ⟨26, _⟩ => ⟨S8x2048x2048, .f32⟩
  | .hbm, ⟨27, _⟩ => ⟨S_, .f32⟩
  | .hbm, ⟨28, _⟩ => ⟨S8x2048, .f32⟩
  | .hbm, ⟨29, _⟩ => ⟨S8x2048x1, .f32⟩
  | .hbm, ⟨30, _⟩ => ⟨S8x2048x1, .f32⟩
  | .hbm, ⟨31, _⟩ => ⟨S8x2048x1, .f32⟩
  | .hbm, ⟨32, _⟩ => ⟨S8x2048x2048, .f32⟩
  | .hbm, ⟨33, _⟩ => ⟨S8x2048x2048, .f32⟩
  | .hbm, ⟨34, _⟩ => ⟨S_, .f32⟩
  | .hbm, ⟨35, _⟩ => ⟨S8x2048, .f32⟩
  | .hbm, ⟨36, _⟩ => ⟨S8x1x2048, .f32⟩
  | .hbm, ⟨37, _⟩ => ⟨S8x1x2048, .f32⟩
  | .hbm, ⟨38, _⟩ => ⟨S_, .f32⟩
  | .hbm, ⟨39, _⟩ => ⟨S8x1x2048, .f32⟩
  | .hbm, ⟨40, _⟩ => ⟨S8x1x2048, .i1⟩
  | .hbm, ⟨41, _⟩ => ⟨S_, .f32⟩
  | .hbm, ⟨42, _⟩ => ⟨S_, .f32⟩
  | .hbm, ⟨43, _⟩ => ⟨S8x1x2048, .f32⟩
  | .hbm, ⟨44, _⟩ => ⟨S8x1x2048, .f32⟩
  | .hbm, ⟨45, _⟩ => ⟨S8x2048x2048, .f32⟩
  | .hbm, ⟨46, _⟩ => ⟨S8x2048x2048, .f32⟩
  | .hbm, ⟨47, _⟩ => ⟨S8x2048x2048, .f32⟩
  | .hbm, ⟨48, _⟩ => ⟨S_, .f32⟩
  | .hbm, ⟨49, _⟩ => ⟨S8x2048, .f32⟩
  | .hbm, ⟨50, _⟩ => ⟨S8x1x2048, .f32⟩
  | .hbm, ⟨51, _⟩ => ⟨S8x1x2048, .f32⟩
  | .hbm, ⟨52, _⟩ => ⟨S8x1x2048, .f32⟩
  | .hbm, ⟨53, _⟩ => ⟨S8x2048x2048, .f32⟩
  | .hbm, ⟨54, _⟩ => ⟨S8x2048x2048, .f32⟩
  | .hbm, ⟨55, _⟩ => ⟨S_, .i32⟩
  | .hbm, ⟨56, _⟩ => ⟨S_, .i32⟩
  | .hbm, ⟨57, _⟩ => ⟨S8x2048x2048, .f32⟩
  | _, _ => ⟨S8x2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_v0 : Ref sig .tc := ⟨.hbm, 2, rfl⟩
abbrev main_v1 : Ref sig .tc := ⟨.hbm, 3, rfl⟩
abbrev main_c : Ref sig .tc := ⟨.hbm, 4, rfl⟩
abbrev main_c_0 : Ref sig .tc := ⟨.hbm, 5, rfl⟩
abbrev main_v2_0 : Ref sig .tc := ⟨.hbm, 6, rfl⟩
abbrev main_v2_1 : Ref sig .tc := ⟨.hbm, 7, rfl⟩
abbrev main_v2_2 : Ref sig .tc := ⟨.hbm, 8, rfl⟩
abbrev main_while0c_c_3 : Ref sig .tc := ⟨.hbm, 9, rfl⟩
abbrev main_while0c_v4 : Ref sig .tc := ⟨.hbm, 10, rfl⟩
abbrev main_while0b_c_3 : Ref sig .tc := ⟨.hbm, 11, rfl⟩
abbrev main_while0b_v4 : Ref sig .tc := ⟨.hbm, 12, rfl⟩
abbrev main_while0b_cst_4 : Ref sig .tc := ⟨.hbm, 13, rfl⟩
abbrev main_while0b_v5 : Ref sig .tc := ⟨.hbm, 14, rfl⟩
abbrev main_while0b_v6 : Ref sig .tc := ⟨.hbm, 15, rfl⟩
abbrev main_while0b_v7 : Ref sig .tc := ⟨.hbm, 16, rfl⟩
abbrev main_while0b_cst_5 : Ref sig .tc := ⟨.hbm, 17, rfl⟩
abbrev main_while0b_v8 : Ref sig .tc := ⟨.hbm, 18, rfl⟩
abbrev main_while0b_v9 : Ref sig .tc := ⟨.hbm, 19, rfl⟩
abbrev main_while0b_cst_6 : Ref sig .tc := ⟨.hbm, 20, rfl⟩
abbrev main_while0b_call0_v0 : Ref sig .tc := ⟨.hbm, 21, rfl⟩
abbrev main_while0b_call0_v1 : Ref sig .tc := ⟨.hbm, 22, rfl⟩
abbrev main_while0b_v10 : Ref sig .tc := ⟨.hbm, 23, rfl⟩
abbrev main_while0b_v11 : Ref sig .tc := ⟨.hbm, 24, rfl⟩
abbrev main_while0b_v12 : Ref sig .tc := ⟨.hbm, 25, rfl⟩
abbrev main_while0b_v13 : Ref sig .tc := ⟨.hbm, 26, rfl⟩
abbrev main_while0b_cst_7 : Ref sig .tc := ⟨.hbm, 27, rfl⟩
abbrev main_while0b_v14 : Ref sig .tc := ⟨.hbm, 28, rfl⟩
abbrev main_while0b_v15 : Ref sig .tc := ⟨.hbm, 29, rfl⟩
abbrev main_while0b_v16 : Ref sig .tc := ⟨.hbm, 30, rfl⟩
abbrev main_while0b_v17 : Ref sig .tc := ⟨.hbm, 31, rfl⟩
abbrev main_while0b_v18 : Ref sig .tc := ⟨.hbm, 32, rfl⟩
abbrev main_while0b_v19 : Ref sig .tc := ⟨.hbm, 33, rfl⟩
abbrev main_while0b_cst_8 : Ref sig .tc := ⟨.hbm, 34, rfl⟩
abbrev main_while0b_v20 : Ref sig .tc := ⟨.hbm, 35, rfl⟩
abbrev main_while0b_v21 : Ref sig .tc := ⟨.hbm, 36, rfl⟩
abbrev main_while0b_v22 : Ref sig .tc := ⟨.hbm, 37, rfl⟩
abbrev main_while0b_cst_9 : Ref sig .tc := ⟨.hbm, 38, rfl⟩
abbrev main_while0b_v23 : Ref sig .tc := ⟨.hbm, 39, rfl⟩
abbrev main_while0b_v24 : Ref sig .tc := ⟨.hbm, 40, rfl⟩
abbrev main_while0b_cst_10 : Ref sig .tc := ⟨.hbm, 41, rfl⟩
abbrev main_while0b_call1_v0 : Ref sig .tc := ⟨.hbm, 42, rfl⟩
abbrev main_while0b_call1_v1 : Ref sig .tc := ⟨.hbm, 43, rfl⟩
abbrev main_while0b_v25 : Ref sig .tc := ⟨.hbm, 44, rfl⟩
abbrev main_while0b_v26 : Ref sig .tc := ⟨.hbm, 45, rfl⟩
abbrev main_while0b_v27 : Ref sig .tc := ⟨.hbm, 46, rfl⟩
abbrev main_while0b_v28 : Ref sig .tc := ⟨.hbm, 47, rfl⟩
abbrev main_while0b_cst_11 : Ref sig .tc := ⟨.hbm, 48, rfl⟩
abbrev main_while0b_v29 : Ref sig .tc := ⟨.hbm, 49, rfl⟩
abbrev main_while0b_v30 : Ref sig .tc := ⟨.hbm, 50, rfl⟩
abbrev main_while0b_v31 : Ref sig .tc := ⟨.hbm, 51, rfl⟩
abbrev main_while0b_v32 : Ref sig .tc := ⟨.hbm, 52, rfl⟩
abbrev main_while0b_v33 : Ref sig .tc := ⟨.hbm, 53, rfl⟩
abbrev main_while0b_v34 : Ref sig .tc := ⟨.hbm, 54, rfl⟩
abbrev main_while0b_c_12 : Ref sig .tc := ⟨.hbm, 55, rfl⟩
abbrev main_while0b_v35 : Ref sig .tc := ⟨.hbm, 56, rfl⟩
abbrev main_v3 : Ref sig .tc := ⟨.hbm, 57, rfl⟩

abbrev nD : Nat := 1
abbrev τ : Topo := Topo.v7x

variable {F : FTy → Type} [FloatOps F]

abbrev main_while0_count : Scf.Loop 32 := ⟨0#32, 20#32, 1#32⟩
-- ==== Proof.KernelIdeal.Names.lean ====
/-
  Names for the parts of memory one grid point of the kernel touches: group `n` of the argument and of the
  result (one 2048 by 2048 matrix of the batch), half `n % 2` of the two-slot buffer, and the semaphore of
  each slot for the copies in and for the copies out. Each slice the kernel takes is one of these names; the
  equations below say which.
-/
module

public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import Idealize.ShloMosaic.Lib.Pipeline.KitQuiescent
public import Idealize.ShloMosaic.Lib.Ring
public import Idealize.ShloMosaic.Lib.VecWindow
public import Idealize.ShloMosaic.Lib.Affine
public import Idealize.ShloMosaic.Lib.Tactic

@[expose] public section

set_option maxRecDepth 16384

noncomputable section

namespace Cert.Proof.KernelIdeal

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

/-- The resources of the launch: the pipeline's, beside the counters the kernel's own copies use. -/
abbrev UU (nD : Nat) (τ : Topo) : Type := UR sig nD τ × Counters
abbrev 𝒱₀ : Variants := Variants.none

/-- The argument, the result, and the two-slot buffer. -/
abbrev xM : Memref sig .tc .hbm S8x2048x2048 .f32 := Memref.whole main_arg0
abbrev oM : Memref sig .tc .hbm S8x2048x2048 .f32 := Memref.whole main_v0
abbrev bufM : Memref sig .tc .vmem S2x2048x2048 .f32 := Memref.whole cc0_scratch0

abbrev grpOff (n : ℕ) : Fin 3 → Nat := ![n % 8, 0, 0]
theorem grpOff_inb (n : ℕ) : ∀ a, grpOff n a + S1x2048x2048.size a ≤ S8x2048x2048.size a := by
  intro a; fin_cases a
  · show n % 8 + 1 ≤ 8; omega
  · show 0 + 2048 ≤ 2048; omega
  · show 0 + 2048 ≤ 2048; omega
abbrev slotOff (n : ℕ) : Fin 3 → Nat := ![n % 2, 0, 0]
theorem slotOff_inb (n : ℕ) : ∀ a, slotOff n a + S1x2048x2048.size a ≤ S2x2048x2048.size a := by
  intro a; fin_cases a
  · show n % 2 + 1 ≤ 2; omega
  · show 0 + 2048 ≤ 2048; omega
  · show 0 + 2048 ≤ 2048; omega
abbrev semOff (n : ℕ) : Fin 1 → Nat := ![n % 2]
theorem semOff_inb (n : ℕ) : ∀ a, semOff n a + S1.size a ≤ S2.size a := by
  intro a; fin_cases a; show n % 2 + 1 ≤ 2; omega

/-- Group `n` of the argument. -/
def xg (n : ℕ) : Memref sig .tc .hbm S2048x2048 .f32 :=
  (xM.slice (Rect.unit (s := S8x2048x2048) (grpOff n) S1x2048x2048.size (grpOff_inb n)) (fun _ => rfl)).squeeze S2048x2048 squeezes_S1x2048x2048_S2048x2048
/-- Group `n` of the result. -/
def og (n : ℕ) : Memref sig .tc .hbm S2048x2048 .f32 :=
  (oM.slice (Rect.unit (s := S8x2048x2048) (grpOff n) S1x2048x2048.size (grpOff_inb n)) (fun _ => rfl)).squeeze S2048x2048 squeezes_S1x2048x2048_S2048x2048
/-- The slot of the buffer that group `n` uses. -/
def rslot (n : ℕ) : Memref sig .tc .vmem S2048x2048 .f32 :=
  (bufM.slice (Rect.unit (s := S2x2048x2048) (slotOff n) S1x2048x2048.size (slotOff_inb n)) (fun _ => rfl)).squeeze S2048x2048 squeezes_S1x2048x2048_S2048x2048
/-- The semaphore of group `n`'s copy in. -/
def cin (n : ℕ) : DmaSems sig S_ := (cc0_scratch1.slice (Rect.unit (s := S2) (semOff n) S1.size (semOff_inb n))).squeeze S_ squeezes_S1_S_
/-- The semaphore of group `n`'s copy out. -/
def cout (n : ℕ) : DmaSems sig S_ := (cc0_scratch2.slice (Rect.unit (s := S2) (semOff n) S1.size (semOff_inb n))).squeeze S_ squeezes_S1_S_

instance (n : ℕ) : ClosedOff (slotOff n) := ⟨slotOff n, rfl⟩
instance (n : ℕ) : ClosedOff (grpOff n) := ⟨grpOff n, rfl⟩

/-! ## Slices of equal offsets are one slice -/

theorem cin_congr {off : Fin 1 → Nat} {n : ℕ} (e : off = semOff n) (hh) :
    (cc0_scratch1.slice (Rect.unit (s := S2) off S1.size hh)).squeeze S_ squeezes_S1_S_ = cin n :=
  congrArg (fun A : DmaSems sig S1 => A.squeeze S_ squeezes_S1_S_) (SemArray.slice_unit_congr _ e _ _)
theorem cout_congr {off : Fin 1 → Nat} {n : ℕ} (e : off = semOff n) (hh) :
    (cc0_scratch2.slice (Rect.unit (s := S2) off S1.size hh)).squeeze S_ squeezes_S1_S_ = cout n :=
  congrArg (fun A : DmaSems sig S1 => A.squeeze S_ squeezes_S1_S_) (SemArray.slice_unit_congr _ e _ _)
theorem rslot_congr {off : Fin 3 → Nat} {n : ℕ} (e : off = slotOff n) (hh hs) :
    (bufM.slice (Rect.unit (s := S2x2048x2048) off S1x2048x2048.size hh) hs).squeeze S2048x2048 squeezes_S1x2048x2048_S2048x2048 = rslot n :=
  congrArg (fun M : Memref sig .tc .vmem S1x2048x2048 .f32 => M.squeeze S2048x2048 squeezes_S1x2048x2048_S2048x2048) (Memref.slice_unit_congr _ e _ _ _ _)
theorem xg_congr {off : Fin 3 → Nat} {n : ℕ} (e : off = grpOff n) (hh hs) :
    (xM.slice (Rect.unit (s := S8x2048x2048) off S1x2048x2048.size hh) hs).squeeze S2048x2048 squeezes_S1x2048x2048_S2048x2048 = xg n :=
  congrArg (fun M : Memref sig .tc .hbm S1x2048x2048 .f32 => M.squeeze S2048x2048 squeezes_S1x2048x2048_S2048x2048) (Memref.slice_unit_congr _ e _ _ _ _)
theorem og_congr {off : Fin 3 → Nat} {n : ℕ} (e : off = grpOff n) (hh hs) :
    (oM.slice (Rect.unit (s := S8x2048x2048) off S1x2048x2048.size hh) hs).squeeze S2048x2048 squeezes_S1x2048x2048_S2048x2048 = og n :=
  congrArg (fun M : Memref sig .tc .hbm S1x2048x2048 .f32 => M.squeeze S2048x2048 squeezes_S1x2048x2048_S2048x2048) (Memref.slice_unit_congr _ e _ _ _ _)

/-! ## The kernel's offsets at grid point `i` -/

theorem off1_eq (i : grid0.Coords) : k0_off1 i = semOff (i 0).val := k0_off1_eq i
theorem off2_eq (i : grid0.Coords) : k0_off2 i = slotOff (i 0).val := k0_off2_eq i
theorem off3_eq : ∀ i : grid0.Coords, k0_off3 i = grpOff (i 0).val := by decide +kernel
theorem off12_eq : ∀ i : grid0.Coords, k0_off12 i = semOff ((i 0).val + 1) := by decide +kernel
theorem off13_eq : ∀ i : grid0.Coords, k0_cond2 i = 1#1 → k0_off13 i = grpOff ((i 0).val + 7) := by decide +kernel
theorem off14_eq : ∀ i : grid0.Coords, k0_off14 i = slotOff ((i 0).val + 1) := by decide +kernel
theorem off15_eq : ∀ i : grid0.Coords, k0_cond2 i = 1#1 → k0_off15 i = grpOff ((i 0).val + 1) := by decide +kernel
theorem off16_eq : ∀ i : grid0.Coords, k0_off16 i = semOff ((i 0).val + 1) := by decide +kernel
theorem off17_eq : ∀ i : grid0.Coords, k0_cond3 i = 1#1 → k0_off17 i = grpOff ((i 0).val + 7) := by decide +kernel
theorem off18_eq : ∀ i : grid0.Coords, k0_off18 i = slotOff ((i 0).val + 1) := by decide +kernel
theorem off20_eq : ∀ i : grid0.Coords, k0_off20 i = grpOff (i 0).val := by decide +kernel

/-! ## Each slice the kernel takes, by its name -/

theorem cinL0 (hh) : (cc0_scratch1.slice (Rect.unit (s := S2) ![0] S1.size hh)).squeeze S_ squeezes_S1_S_ = cin 0 := cin_congr (by decide) _
theorem cinL1 (hh) : (cc0_scratch1.slice (Rect.unit (s := S2) ![1] S1.size hh)).squeeze S_ squeezes_S1_S_ = cin 1 := cin_congr (by decide) _
theorem rslotL0 (hh hs) : (bufM.slice (Rect.unit (s := S2x2048x2048) ![0, 0, 0] S1x2048x2048.size hh) hs).squeeze S2048x2048 squeezes_S1x2048x2048_S2048x2048 = rslot 0 := rslot_congr (by decide) _ _
theorem rslotL1 (hh hs) : (bufM.slice (Rect.unit (s := S2x2048x2048) ![1, 0, 0] S1x2048x2048.size hh) hs).squeeze S2048x2048 squeezes_S1x2048x2048_S2048x2048 = rslot 1 := rslot_congr (by decide) _ _
theorem xgL0 (hh hs) : (xM.slice (Rect.unit (s := S8x2048x2048) ![0, 0, 0] S1x2048x2048.size hh) hs).squeeze S2048x2048 squeezes_S1x2048x2048_S2048x2048 = xg 0 := xg_congr (by decide) _ _
theorem xgL1 (hh hs) : (xM.slice (Rect.unit (s := S8x2048x2048) ![1, 0, 0] S1x2048x2048.size hh) hs).squeeze S2048x2048 squeezes_S1x2048x2048_S2048x2048 = xg 1 := xg_congr (by decide) _ _

section
variable (i : grid0.Coords)

theorem cin1 (hh) : (cc0_scratch1.slice (Rect.unit (s := S2) (k0_off1 i) S1.size hh)).squeeze S_ squeezes_S1_S_ = cin (i 0).val := cin_congr (off1_eq i) _
theorem cin12 (hh) : (cc0_scratch1.slice (Rect.unit (s := S2) (k0_off12 i) S1.size hh)).squeeze S_ squeezes_S1_S_ = cin ((i 0).val + 1) := cin_congr (off12_eq i) _
theorem cout1 (hh) : (cc0_scratch2.slice (Rect.unit (s := S2) (k0_off1 i) S1.size hh)).squeeze S_ squeezes_S1_S_ = cout (i 0).val := cout_congr (off1_eq i) _
theorem cout12 (hh) : (cc0_scratch2.slice (Rect.unit (s := S2) (k0_off12 i) S1.size hh)).squeeze S_ squeezes_S1_S_ = cout ((i 0).val + 1) := cout_congr (off12_eq i) _
theorem cout16 (hh) : (cc0_scratch2.slice (Rect.unit (s := S2) (k0_off16 i) S1.size hh)).squeeze S_ squeezes_S1_S_ = cout ((i 0).val + 1) := cout_congr (off16_eq i) _
theorem cout19 (hh) : (cc0_scratch2.slice (Rect.unit (s := S2) (k0_off19 i) S1.size hh)).squeeze S_ squeezes_S1_S_ = cout (i 0).val := cout_congr (k0_off19_eq i) _

theorem rslot2 (hh hs) : (bufM.slice (Rect.unit (s := S2x2048x2048) (k0_off2 i) S1x2048x2048.size hh) hs).squeeze S2048x2048 squeezes_S1x2048x2048_S2048x2048 = rslot (i 0).val := rslot_congr (off2_eq i) _ _
theorem rslot4 (hh hs) : (bufM.slice (Rect.unit (s := S2x2048x2048) (k0_off4 i) S1x2048x2048.size hh) hs).squeeze S2048x2048 squeezes_S1x2048x2048_S2048x2048 = rslot (i 0).val := rslot_congr (k0_off4_eq i) _ _
theorem rslot6 (hh hs) : (bufM.slice (Rect.unit (s := S2x2048x2048) (k0_off6 i) S1x2048x2048.size hh) hs).squeeze S2048x2048 squeezes_S1x2048x2048_S2048x2048 = rslot (i 0).val := rslot_congr (k0_off6_eq i) _ _
theorem rslot8 (hh hs) : (bufM.slice (Rect.unit (s := S2x2048x2048) (k0_off8 i) S1x2048x2048.size hh) hs).squeeze S2048x2048 squeezes_S1x2048x2048_S2048x2048 = rslot (i 0).val := rslot_congr (k0_off8_eq i) _ _
theorem rslot10 (hh hs) : (bufM.slice (Rect.unit (s := S2x2048x2048) (k0_off10 i) S1x2048x2048.size hh) hs).squeeze S2048x2048 squeezes_S1x2048x2048_S2048x2048 = rslot (i 0).val := rslot_congr (k0_off10_eq i) _ _
theorem rslot14 (hh hs) : (bufM.slice (Rect.unit (s := S2x2048x2048) (k0_off14 i) S1x2048x2048.size hh) hs).squeeze S2048x2048 squeezes_S1x2048x2048_S2048x2048 = rslot ((i 0).val + 1) := rslot_congr (off14_eq i) _ _
theorem rslot18 (hh hs) : (bufM.slice (Rect.unit (s := S2x2048x2048) (k0_off18 i) S1x2048x2048.size hh) hs).squeeze S2048x2048 squeezes_S1x2048x2048_S2048x2048 = rslot ((i 0).val + 1) := rslot_congr (off18_eq i) _ _
theorem rslot21 (hh hs) : (bufM.slice (Rect.unit (s := S2x2048x2048) (k0_off21 i) S1x2048x2048.size hh) hs).squeeze S2048x2048 squeezes_S1x2048x2048_S2048x2048 = rslot (i 0).val := rslot_congr (k0_off21_eq i) _ _

theorem xg3 (hh hs) : (xM.slice (Rect.unit (s := S8x2048x2048) (k0_off3 i) S1x2048x2048.size hh) hs).squeeze S2048x2048 squeezes_S1x2048x2048_S2048x2048 = xg (i 0).val := xg_congr (off3_eq i) _ _
theorem xg15 (h : k0_cond2 i = 1#1) (hh hs) : (xM.slice (Rect.unit (s := S8x2048x2048) (k0_off15 i) S1x2048x2048.size hh) hs).squeeze S2048x2048 squeezes_S1x2048x2048_S2048x2048 = xg ((i 0).val + 1) := xg_congr (off15_eq i h) _ _
theorem og3 (hh hs) : (oM.slice (Rect.unit (s := S8x2048x2048) (k0_off3 i) S1x2048x2048.size hh) hs).squeeze S2048x2048 squeezes_S1x2048x2048_S2048x2048 = og (i 0).val := og_congr (off3_eq i) _ _
theorem og13 (h : k0_cond2 i = 1#1) (hh hs) : (oM.slice (Rect.unit (s := S8x2048x2048) (k0_off13 i) S1x2048x2048.size hh) hs).squeeze S2048x2048 squeezes_S1x2048x2048_S2048x2048 = og ((i 0).val + 7) := og_congr (off13_eq i h) _ _
theorem og17 (h : k0_cond3 i = 1#1) (hh hs) : (oM.slice (Rect.unit (s := S8x2048x2048) (k0_off17 i) S1x2048x2048.size hh) hs).squeeze S2048x2048 squeezes_S1x2048x2048_S2048x2048 = og ((i 0).val + 7) := og_congr (off17_eq i h) _ _
theorem og20 (hh hs) : (oM.slice (Rect.unit (s := S8x2048x2048) (k0_off20 i) S1x2048x2048.size hh) hs).squeeze S2048x2048 squeezes_S1x2048x2048_S2048x2048 = og (i 0).val := og_congr (off20_eq i) _ _
end

/-! ## Names of equal numbers: a name depends on its number modulo 2 or 8 only -/

theorem xg_mod {n n' : ℕ} (h : n % 8 = n' % 8) : xg n = xg n' := xg_congr (show grpOff n = grpOff n' by unfold grpOff; rw [h]) _ _
theorem og_mod {n n' : ℕ} (h : n % 8 = n' % 8) : og n = og n' := og_congr (show grpOff n = grpOff n' by unfold grpOff; rw [h]) _ _
theorem rslot_mod {n n' : ℕ} (h : n % 2 = n' % 2) : rslot n = rslot n' := rslot_congr (show slotOff n = slotOff n' by unfold slotOff; rw [h]) _ _
theorem cin_mod {n n' : ℕ} (h : n % 2 = n' % 2) : cin n = cin n' := cin_congr (show semOff n = semOff n' by unfold semOff; rw [h]) _
theorem cout_mod {n n' : ℕ} (h : n % 2 = n' % 2) : cout n = cout n' := cout_congr (show semOff n = semOff n' by unfold semOff; rw [h]) _

end Cert.Proof.KernelIdeal

end
-- ==== Proof.KernelIdeal.Block.lean ====
/-
  What one grid point computes on the matrix it was handed, as functions of that matrix: the first sweep
  exponentiates the matrix strip by strip and adds up its normalised columns, eighteen sweeps refine the
  column scale, one more sweep gives the last column sums, and the last sweep writes the scaled matrix.
  A strip is 1024 of the 2048 rows.
-/
module

public import proofs.«01_k».proof.Proof.KernelIdeal.Names

@[expose] public section

noncomputable section

namespace Cert.Proof.KernelIdeal

open Cert.KernelIdeal Cert.KernelIdeal.Gen
open Idealize.ShloMosaic Idealize.ShloMosaic.TcCoe

variable {F : FTy → Type} [FloatOps F]

abbrev stripOff (k : ℕ) : Fin 2 → Nat := ![1024 * (k % 2), 0]
theorem stripOff_inb (k : ℕ) : ∀ a, stripOff k a + S1024x2048.size a ≤ S2048x2048.size a := by
  intro a; fin_cases a
  · show 1024 * (k % 2) + 1024 ≤ 2048; omega
  · show 0 + 2048 ≤ 2048; omega

/-- Strip `k` of a matrix. -/
def strip (z : Vec F S2048x2048 .f32) (k : ℕ) : Vec F S1024x2048 .f32 :=
  VecWindow.window (s := S2048x2048) z (stripOff k) S1024x2048.size (stripOff_inb k)
/-- A matrix with strip `k` replaced. -/
def setStrip (z : Vec F S2048x2048 .f32) (k : ℕ) (w : Vec F S1024x2048 .f32) : Vec F S2048x2048 .f32 :=
  VecWindow.put (s := S2048x2048) z (stripOff k) S1024x2048.size w

theorem strip_setStrip (z : Vec F S2048x2048 .f32) (k : ℕ) (w : Vec F S1024x2048 .f32) : strip (setStrip z k w) k = w :=
  VecWindow.window_put_same (s := S2048x2048) z (stripOff k) S1024x2048.size (stripOff_inb k) w

/-- The first sweep after `k` strips: the matrix, -/
def expTo (z : Vec F S2048x2048 .f32) : ℕ → Vec F S2048x2048 .f32
  | 0 => z
  | k + 1 => setStrip (expTo z k) k (k0_pay3 (strip (expTo z k) k))
/-- and the sums of its normalised columns. -/
def firstTo (z : Vec F S2048x2048 .f32) : ℕ → FVec F S1x2048 .f32
  | 0 => k0_pay1
  | k + 1 => k0_pay4 (firstTo z k) (strip (expTo z k) k) (k0_pay3 (strip (expTo z k) k))
/-- A refining sweep with column scale `b` after `k` strips. -/
def sweepTo (e : Vec F S2048x2048 .f32) (b : FVec F S1x2048 .f32) : ℕ → FVec F S1x2048 .f32
  | 0 => k0_pay6
  | k + 1 => k0_pay7 b (sweepTo e b k) (strip e k) (strip e k)
/-- The column scale after `k` refining sweeps. -/
def scaleTo (e : Vec F S2048x2048 .f32) (b : FVec F S1x2048 .f32) : ℕ → FVec F S1x2048 .f32
  | 0 => b
  | k + 1 => k0_pay8 (sweepTo e (scaleTo e b k) 2)
/-- The last sums after `k` strips. -/
def lastTo (e : Vec F S2048x2048 .f32) (b : FVec F S1x2048 .f32) : ℕ → FVec F S1x2048 .f32
  | 0 => k0_pay9
  | k + 1 => k0_pay10 b (lastTo e b k) (strip e k) (strip e k)
/-- The scaled matrix after `k` strips. -/
def outTo (e : Vec F S2048x2048 .f32) (b c : FVec F S1x2048 .f32) : ℕ → Vec F S2048x2048 .f32
  | 0 => e
  | k + 1 => setStrip (outTo e b c k) k (k0_pay11 b c (strip (outTo e b c k) k))

/-- The exponentials, the column scale, the last sums, and what the grid point leaves. -/
def blockE (z : Vec F S2048x2048 .f32) : Vec F S2048x2048 .f32 := expTo z 2
def blockB (z : Vec F S2048x2048 .f32) : FVec F S1x2048 .f32 := scaleTo (blockE z) (k0_pay5 (firstTo z 2)) 18
def blockC (z : Vec F S2048x2048 .f32) : FVec F S1x2048 .f32 := lastTo (blockE z) (blockB z) 2
def blockOut (z : Vec F S2048x2048 .f32) : Vec F S2048x2048 .f32 := outTo (blockE z) (blockB z) (blockC z) 2

end Cert.Proof.KernelIdeal

end
-- ==== Proof.KernelIdeal.Trips.lean ====
/-
  One trip of each of the kernel's five counted loops, on the slot of the buffer the grid point uses: what
  the slot holds and what the loop carries after the trip, from what they were before it.
-/
module

public import proofs.«01_k».proof.Proof.KernelIdeal.Block

@[expose] public section

set_option maxRecDepth 16384

noncomputable section

namespace Cert.Proof.KernelIdeal

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UU nD τ) ℕ

attribute [local sl_canon] cinL0 cinL1 rslotL0 rslotL1 xgL0 xgL1 cin1 cin12 cout1 cout12 cout16 cout19 rslot2 rslot4
  rslot6 rslot8 rslot10 rslot14 rslot18 rslot21 xg3 xg15 og3 og13 og17 og20

/-- The slot of group `n`, held, with the matrix `z` in it. -/
abbrev slotP (c : Dev nD) (n : ℕ) (z : Vec F S2048x2048 .f32) : sProp 𝕄 :=
  (rslot n).view.loc (c : Thread nD τ) ↦[(rslot n).view.set]{fullShare} (rslot n).view.rep z

variable (c : Dev nD) (i : grid0.Coords)

abbrev Body1 := k0_t1_body (F := F) i xM (Memref.isWhole_whole _) oM (Memref.isWhole_whole _) bufM (Memref.isWhole_whole _) cc0_scratch1 cc0_scratch2
abbrev Body2 := k0_t2_body (F := F) i xM (Memref.isWhole_whole _) oM (Memref.isWhole_whole _) bufM (Memref.isWhole_whole _) cc0_scratch1 cc0_scratch2
abbrev Body4 := k0_t4_body (F := F) i xM (Memref.isWhole_whole _) oM (Memref.isWhole_whole _) bufM (Memref.isWhole_whole _) cc0_scratch1 cc0_scratch2
abbrev Body5 := k0_t5_body (F := F) i xM (Memref.isWhole_whole _) oM (Memref.isWhole_whole _) bufM (Memref.isWhole_whole _) cc0_scratch1 cc0_scratch2
abbrev Body3 := k0_t3_body (F := F) i xM (Memref.isWhole_whole _) oM (Memref.isWhole_whole _) bufM (Memref.isWhole_whole _) cc0_scratch1 cc0_scratch2

/-- A load of 1024 rows of the slot reads a strip of the matrix in it, -/
theorem load_strip (n k : ℕ) (z : Vec F S2048x2048 .f32) {off : Fin 2 → Nat} (h : off = stripOff k) (hh) :
    View.readAt (Elt F) (rslot n).view (Rect.unit (s := S2048x2048) off S1024x2048.size hh).toLoadRect ((rslot n).view.rep z) = strip z k :=
  View.readAt_rep_unit (rslot n).view z hh h (stripOff_inb k)
/-- a store replaces it, -/
theorem store_strip (n k : ℕ) (z : Vec F S2048x2048 .f32) (w : Vec F S1024x2048 .f32) {off : Fin 2 → Nat} (h : off = stripOff k) (hh) :
    (rslot n).view.read (Elt F) ((rslot n).view.writes (Elt F) ((rslot n).view.rep z) [⟨Rect.unit (s := S2048x2048) off S1024x2048.size hh, w⟩]) = setStrip z k w :=
  View.read_writes_rep_unit (rslot n).view z hh w h
/-- and a load after the store reads what was stored. -/
theorem reload_strip (n k : ℕ) (z : Vec F S2048x2048 .f32) (w : Vec F S1024x2048 .f32) {off : Fin 2 → Nat} (h : off = stripOff k) (hh hh') :
    View.readAt (Elt F) (rslot n).view (Rect.unit (s := S2048x2048) off S1024x2048.size hh).toLoadRect
      ((rslot n).view.writes (Elt F) ((rslot n).view.rep z) [⟨Rect.unit (s := S2048x2048) off S1024x2048.size hh', w⟩]) = w := by
  rw [View.readAt_unit (rslot n).view _ hh h (stripOff_inb k), store_strip n k z w h hh']
  exact strip_setStrip z k w

/-- (The same with nothing said of what lay under the store.) -/
theorem reload_cov (n k : ℕ) (w : Vec F S1024x2048 .f32) {off : Fin 2 → Nat} (h : off = stripOff k) (hh hh') :
    (rslot n).view.readCov (Val := Elt F) [⟨Rect.unit (s := S2048x2048) off S1024x2048.size hh', w⟩] (Rect.unit (s := S2048x2048) off S1024x2048.size hh).toLoadRect = w := by
  unfold View.readCov
  rw [View.readAt_unit (rslot n).view _ hh h (stripOff_inb k), View.read_writes_cons_put (rslot n).view _ hh' w [] h]
  exact VecWindow.window_put_same (s := S2048x2048) _ _ _ _ w

theorem row_off {k : ℕ} (hk : k < 2) {off : Fin 2 → Nat} (h : off = ![1024 * k, 0]) : off = stripOff k := by
  rw [h, stripOff, Nat.mod_eq_of_lt hk]

set_option backward.isDefEq.respectTransparency.types false in
theorem trip3 (e : Vec F S2048x2048 .f32) (b acc : FVec F S1x2048 .f32) (k : Fin k0_t3_loop.trips) :
    slotP c (i 0).val e ⊢ wp frame (wpE (defs₀ (F := F)) 𝒱₀ (c : Thread nD τ) none) Set.univ (Body3 i b k acc)
      fun y => iprop(slotP c (i 0).val e ∗ ⌜y = k0_pay7 b acc (strip e k) (strip e k)⌝) := by
  have hk : k.val < 2 := Nat.lt_of_lt_of_le k.isLt k0_t3_abs.2.1
  unfold Body3 k0_t3_body
  iintro H
  sl_exec
  sl_step
  isplitl [H]
  · iexact H
  · ipureintro
    rw [load_strip _ _ _ (row_off hk (k0_off7_eq k))]

set_option backward.isDefEq.respectTransparency.types false in
theorem trip4 (e : Vec F S2048x2048 .f32) (b acc : FVec F S1x2048 .f32) (k : Fin k0_t4_loop.trips) :
    slotP c (i 0).val e ⊢ wp frame (wpE (defs₀ (F := F)) 𝒱₀ (c : Thread nD τ) none) Set.univ (Body4 i b k acc)
      fun y => iprop(slotP c (i 0).val e ∗ ⌜y = k0_pay10 b acc (strip e k) (strip e k)⌝) := by
  have hk : k.val < 2 := Nat.lt_of_lt_of_le k.isLt k0_t4_abs.2.1
  unfold Body4 k0_t4_body
  iintro H
  sl_exec
  sl_step
  isplitl [H]
  · iexact H
  · ipureintro
    rw [load_strip _ _ _ (row_off hk (k0_off9_eq k))]

set_option backward.isDefEq.respectTransparency.types false in
theorem trip1 (z : Vec F S2048x2048 .f32) (acc : FVec F S1x2048 .f32) (k : Fin k0_t1_loop.trips) :
    slotP c (i 0).val z ⊢ wp frame (wpE (defs₀ (F := F)) 𝒱₀ (c : Thread nD τ) none) Set.univ (Body1 i k acc)
      fun y => iprop(slotP c (i 0).val (setStrip z k (k0_pay3 (strip z k))) ∗ ⌜y = k0_pay4 acc (strip z k) (k0_pay3 (strip z k))⌝) := by
  have hk : k.val < 2 := Nat.lt_of_lt_of_le k.isLt k0_t1_abs.2.1
  unfold Body1 k0_t1_body
  iintro H
  sl_exec
  sl_step
  isplitl [H]
  · iapply pointsTo_rep_of_read (c : Thread nD τ) (rslot (i 0).val) _ fullShare _ ?h $$ H
    case h =>
      unfold trip1.sl.H_1
      rw [store_strip _ _ _ _ (row_off hk (k0_off5_eq k)), load_strip _ _ _ (row_off hk (k0_off5_eq k))]
  · ipureintro
    unfold trip1.sl.v62 trip1.sl.H_1
    rw [reload_cov _ _ _ (row_off hk (k0_off5_eq k)), load_strip _ _ _ (row_off hk (k0_off5_eq k))]

set_option backward.isDefEq.respectTransparency.types false in
theorem trip5 (e : Vec F S2048x2048 .f32) (b d : FVec F S1x2048 .f32) (k : Fin k0_t5_loop.trips) :
    slotP c (i 0).val e ⊢ wp frame (wpE (defs₀ (F := F)) 𝒱₀ (c : Thread nD τ) none) Set.univ (Body5 i b d k ())
      fun _ => slotP c (i 0).val (setStrip e k (k0_pay11 b d (strip e k))) := by
  have hk : k.val < 2 := Nat.lt_of_lt_of_le k.isLt k0_t5_abs.2.1
  unfold Body5 k0_t5_body
  iintro H
  sl_exec
  sl_step
  iapply pointsTo_rep_of_read (c : Thread nD τ) (rslot (i 0).val) _ fullShare _ ?h $$ H
  case h =>
    rw [store_strip _ _ _ _ (row_off hk (k0_off11_eq k)), load_strip _ _ _ (row_off hk (k0_off11_eq k))]

/-! ## The loops' invariants -/

theorem trips1 : Scf.trips k0_t1_loop.lb k0_t1_loop.ub k0_t1_loop.st = 2 := by decide +kernel
theorem trips2 : Scf.trips k0_t2_loop.lb k0_t2_loop.ub k0_t2_loop.st = 18 := by decide +kernel
theorem trips3 : Scf.trips k0_t3_loop.lb k0_t3_loop.ub k0_t3_loop.st = 2 := by decide +kernel
theorem trips4 : Scf.trips k0_t4_loop.lb k0_t4_loop.ub k0_t4_loop.st = 2 := by decide +kernel
theorem trips5 : Scf.trips k0_t5_loop.lb k0_t5_loop.ub k0_t5_loop.st = 2 := by decide +kernel

set_option warn.classDefReducibility false in
@[sl_loop] def inv3 (e : Vec F S2048x2048 .f32) (b : FVec F S1x2048 .f32) :
    LoopInvTy_k0_t3 (F := F) Unit ℕ (UU nD τ) ℕ 𝒱₀ c none Set.univ i xM (Memref.isWhole_whole _) oM (Memref.isWhole_whole _) bufM (Memref.isWhole_whole _) cc0_scratch1 cc0_scratch2 b k0_pay6 where
  inv k acc := iprop(slotP c (i 0).val e ∗ ⌜acc = sweepTo e b k⌝)
  step k acc := by
    iintro ⟨H, %h⟩
    subst h
    iapply trip3 c i e b _ k $$ H

set_option backward.isDefEq.respectTransparency.types false in
theorem trip2 (e : Vec F S2048x2048 .f32) (acc : FVec F S1x2048 .f32) (k : Fin k0_t2_loop.trips) :
    slotP c (i 0).val e ⊢ wp frame (wpE (defs₀ (F := F)) 𝒱₀ (c : Thread nD τ) none) Set.univ (Body2 i k acc)
      fun y => iprop(slotP c (i 0).val e ∗ ⌜y = k0_pay8 (sweepTo e acc 2)⌝) := by
  have hk : k.val < 18 := Nat.lt_of_lt_of_le k.isLt k0_t2_abs.2.1
  unfold Body2 k0_t2_body
  iintro H
  sl_exec
  sl_step
  isplitl [H]
  · iexact H
  · ipureintro
    rw [trips3]

set_option warn.classDefReducibility false in
@[sl_loop] def inv1 (z : Vec F S2048x2048 .f32) :
    LoopInvTy_k0_t1 (F := F) Unit ℕ (UU nD τ) ℕ 𝒱₀ c none Set.univ i xM (Memref.isWhole_whole _) oM (Memref.isWhole_whole _) bufM (Memref.isWhole_whole _) cc0_scratch1 cc0_scratch2 k0_pay1 where
  inv k acc := iprop(slotP c (i 0).val (expTo z k) ∗ ⌜acc = firstTo z k⌝)
  step k acc := by
    iintro ⟨H, %h⟩
    subst h
    iapply trip1 c i (expTo z k) _ k $$ H

set_option warn.classDefReducibility false in
@[sl_loop] def inv2 (e : Vec F S2048x2048 .f32) (b : FVec F S1x2048 .f32) :
    LoopInvTy_k0_t2 (F := F) Unit ℕ (UU nD τ) ℕ 𝒱₀ c none Set.univ i xM (Memref.isWhole_whole _) oM (Memref.isWhole_whole _) bufM (Memref.isWhole_whole _) cc0_scratch1 cc0_scratch2 b where
  inv k acc := iprop(slotP c (i 0).val e ∗ ⌜acc = scaleTo e b k⌝)
  step k acc := by
    iintro ⟨H, %h⟩
    subst h
    iapply trip2 c i e _ k $$ H

set_option warn.classDefReducibility false in
@[sl_loop] def inv4 (e : Vec F S2048x2048 .f32) (b : FVec F S1x2048 .f32) :
    LoopInvTy_k0_t4 (F := F) Unit ℕ (UU nD τ) ℕ 𝒱₀ c none Set.univ i xM (Memref.isWhole_whole _) oM (Memref.isWhole_whole _) bufM (Memref.isWhole_whole _) cc0_scratch1 cc0_scratch2 b k0_pay9 where
  inv k acc := iprop(slotP c (i 0).val e ∗ ⌜acc = lastTo e b k⌝)
  step k acc := by
    iintro ⟨H, %h⟩
    subst h
    iapply trip4 c i e b _ k $$ H

set_option warn.classDefReducibility false in
@[sl_loop] def inv5 (e : Vec F S2048x2048 .f32) (b d : FVec F S1x2048 .f32) :
    LoopInvTy_k0_t5 (F := F) Unit ℕ (UU nD τ) ℕ 𝒱₀ c none Set.univ i xM (Memref.isWhole_whole _) oM (Memref.isWhole_whole _) bufM (Memref.isWhole_whole _) cc0_scratch1 cc0_scratch2 b d where
  inv k _ := slotP c (i 0).val (outTo e b d k)
  step k _ := trip5 c i (outTo e b d k) b d k

end Cert.Proof.KernelIdeal

end
-- ==== Proof.KernelIdeal.Point.lean ====
/-
  One grid point of the kernel, run. Before point `n` the copy of matrix `n` into its slot is under way, and so
  is the copy of result `n - 1` out of the other slot; the point waits for the first, computes in place, starts
  the copy of its own result out, waits for result `n - 1`, and starts the copy of matrix `n + 1` into the slot
  that came free. Point 0 starts the first two copies in; point 7 waits for both results still on their way.
-/
module

public import proofs.«01_k».proof.Proof.KernelIdeal.Trips

@[expose] public section

set_option maxRecDepth 16384

noncomputable section

namespace Cert.Proof.KernelIdeal

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UU nD τ) ℕ

attribute [local sl_canon] cinL0 cinL1 rslotL0 rslotL1 xgL0 xgL1 cin1 cin12 cout1 cout12 cout16 cout19 rslot2 rslot4
  rslot6 rslot8 rslot10 rslot14 rslot18 rslot21 xg3 xg15 og3 og13 og17 og20

/-! ## The pieces: semaphores at zero, groups held, copies under way -/

section Pieces
variable (c : Dev nD) (X : Buf (Elt F) (xM.view.loc (c : Thread nD τ)))

abbrev cellIn (n : ℕ) : sProp 𝕄 := semVal ((c : Thread nD τ), SemLoc.dma (cin n).sem) 0
abbrev cellOut (n : ℕ) : sProp 𝕄 := semVal ((c : Thread nD τ), SemLoc.dma (cout n).sem) 0
/-- The slot of group `n` at contents `f`. -/
abbrev slotAt (n : ℕ) (f : Buf (Elt F) ((rslot n).view.loc (c : Thread nD τ))) : sProp 𝕄 :=
  (rslot n).view.loc (c : Thread nD τ) ↦[(rslot n).view.set]{fullShare} f
/-- Group `n` of the argument, held. -/
abbrev homeX (n : ℕ) : sProp 𝕄 := (xg n).view.loc (c : Thread nD τ) ↦[(xg n).view.set]{fullShare} X
/-- Group `n` of the result, held at contents `f`. -/
abbrev homeO (n : ℕ) (f : Buf (Elt F) ((og n).view.loc (c : Thread nD τ))) : sProp 𝕄 :=
  (og n).view.loc (c : Thread nD τ) ↦[(og n).view.set]{fullShare} f
/-- Matrix `n` of the argument, and of the result. -/
abbrev matX (n : ℕ) : Vec F S2048x2048 .f32 := (xg n).view.read (Elt F) X
abbrev matO (n : ℕ) : Vec F S2048x2048 .f32 := blockOut (matX c X n)
/-- Group `n` of the result, held with its final matrix. -/
abbrev doneO (n : ℕ) : sProp 𝕄 := homeO c n ((og n).view.rep (matO c X n))
/-- The copy of matrix `n` into its slot, under way. -/
abbrev flightIn (n : ℕ) : sProp 𝕄 :=
  Transfers.Flight countersEmb (c : Thread nD τ) (SemLoc.dma (cin n).sem) () 524288 iprop(slotP c n (matX c X n) ∗ homeX c X n)
/-- The copy of the matrix `w` out of a slot to a group of the result, under way: semaphore, group and slot named apart. -/
abbrev flightOut (s n l : ℕ) (w : Vec F S2048x2048 .f32) : sProp 𝕄 :=
  Transfers.Flight countersEmb (c : Thread nD τ) (SemLoc.dma (cout s).sem) () 524288 iprop(homeO c n ((og n).view.rep w) ∗ slotP c l w)

theorem flightOut_congr {s s' n n' l l' : ℕ} (w : Vec F S2048x2048 .f32) (hs : s % 2 = s' % 2) (hn : n % 8 = n' % 8) (hl : l % 2 = l' % 2) :
    flightOut (F := F) c s n l w = flightOut c s' n' l' w := by
  unfold flightOut homeO slotP
  rw [cout_mod hs, og_mod hn, rslot_mod hl]
theorem doneO_congr {n n' : ℕ} (w : Vec F S2048x2048 .f32) (hn : n % 8 = n' % 8) :
    homeO (F := F) c n ((og n).view.rep w) = homeO c n' ((og n').view.rep w) := by
  unfold homeO
  rw [og_mod hn]

/-- A copy in just begun, over whatever the slot held. -/
theorem flightIn_of (n : ℕ) (f : Buf (Elt F) ((rslot n).view.loc (c : Thread nD τ))) (p : Vec F S2048x2048 .f32) (hp : p = matX c X n) :
    (Transfers.Flight countersEmb (c : Thread nD τ) (SemLoc.dma (cin n).sem) () 524288
      iprop(((rslot n).view.loc (c : Thread nD τ) ↦[(rslot n).view.set]{fullShare} (rslot n).view.writes (Elt F) f [⟨Rect.whole S2048x2048, p⟩]) ∗ homeX c X n) : sProp 𝕄)
      ⊢ flightIn c X n := by
  subst hp
  unfold flightIn slotP
  rw [pointsTo_writes_whole_rebase (c : Thread nD τ) (rslot n) f (rslot n).view.junk]
  exact .rfl
/-- The same, the semaphore given by an equation. -/
theorem flightIn_at (n : ℕ) (s : SemLoc sig) (f : Buf (Elt F) ((rslot n).view.loc (c : Thread nD τ))) (p : Vec F S2048x2048 .f32)
    (hs : s = SemLoc.dma (cin n).sem) (hp : p = matX c X n) :
    (Transfers.Flight countersEmb (c : Thread nD τ) s () 524288
      iprop(((rslot n).view.loc (c : Thread nD τ) ↦[(rslot n).view.set]{fullShare} (rslot n).view.writes (Elt F) f [⟨Rect.whole S2048x2048, p⟩]) ∗ homeX c X n) : sProp 𝕄)
      ⊢ flightIn c X n := by
  subst hs
  exact flightIn_of c X n f p hp
/-- A copy out just begun, over whatever the group of the result held. -/
theorem flightOut_of (n : ℕ) (f : Buf (Elt F) ((og n).view.loc (c : Thread nD τ))) (p w v : Vec F S2048x2048 .f32) (hp : p = v) (hw : v = w) :
    (Transfers.Flight countersEmb (c : Thread nD τ) (SemLoc.dma (cout n).sem) () 524288
      iprop(((og n).view.loc (c : Thread nD τ) ↦[(og n).view.set]{fullShare} (og n).view.writes (Elt F) f [⟨Rect.whole S2048x2048, p⟩]) ∗ slotP c n v) : sProp 𝕄)
      ⊢ flightOut c n n n w := by
  subst hw
  subst hp
  unfold flightOut homeO
  rw [pointsTo_writes_whole_rebase (c : Thread nD τ) (og n) f (og n).view.junk]
  exact .rfl
/-- A group of the result just written, over whatever it held. -/
theorem homeO_of (n : ℕ) (f : Buf (Elt F) ((og n).view.loc (c : Thread nD τ))) (p w : Vec F S2048x2048 .f32) (hp : p = w) :
    ((og n).view.loc (c : Thread nD τ) ↦[(og n).view.set]{fullShare} (og n).view.writes (Elt F) f [⟨Rect.whole S2048x2048, p⟩] : sProp 𝕄)
      ⊢ homeO c n ((og n).view.rep w) := by
  subst hp
  unfold homeO
  rw [pointsTo_writes_whole_rebase (c : Thread nD τ) (og n) f (og n).view.junk]
  exact .rfl
end Pieces

theorem first_ne : ∀ i : grid0.Coords, (i 0).val ≠ 0 → ¬ Scalar.cmpi .ne (Scalar.extui (Scalar.cmpi .eq (BitVec.ofNat 32 (i 0).val) 0#32) : BitVec 32) 0#32 = 1#1 := by decide +kernel
theorem first_eq : ∀ i : grid0.Coords, (i 0).val = 0 → Scalar.cmpi .ne (Scalar.extui (Scalar.cmpi .eq (BitVec.ofNat 32 (i 0).val) 0#32) : BitVec 32) 0#32 = 1#1 := by decide +kernel
theorem cond2_yes : ∀ i : grid0.Coords, (i 0).val ≠ 0 → (i 0).val ≠ 7 → k0_cond2 i = 1#1 := by decide +kernel
theorem cond2_no : ∀ i : grid0.Coords, (i 0).val = 0 ∨ (i 0).val = 7 → ¬ k0_cond2 i = 1#1 := by decide +kernel
theorem cond3_yes : ∀ i : grid0.Coords, (i 0).val = 7 → k0_cond3 i = 1#1 := by decide +kernel
theorem cond3_no : ∀ i : grid0.Coords, (i 0).val ≠ 7 → ¬ k0_cond3 i = 1#1 := by decide +kernel

section Run
variable (c : Dev nD) (X : Buf (Elt F) (xM.view.loc (c : Thread nD τ))) (i : grid0.Coords)

abbrev pointProg : Prog (TpuEff nD τ sig (Elt F) Λ₀ .tc) PUnit :=
  cc0_sinkhorn_prob_domain (F := F) i xM (Memref.isWhole_whole _) oM (Memref.isWhole_whole _) bufM (Memref.isWhole_whole _) cc0_scratch1 cc0_scratch2

set_option backward.isDefEq.respectTransparency.types false in
set_option maxHeartbeats 4000000 in
/-- A point that is neither the first nor the last. -/
theorem run_mid (h0 : (i 0).val ≠ 0) (h7 : (i 0).val ≠ 7)
    (g : Buf (Elt F) ((og (i 0).val).view.loc (c : Thread nD τ))) (w : Vec F S2048x2048 .f32) (W : Waits sig Unit) :
    (iprop(flightIn c X (i 0).val ∗ cellOut c (i 0).val ∗ homeO c (i 0).val g ∗ flightOut c ((i 0).val + 1) ((i 0).val + 7) ((i 0).val + 1) w
        ∗ cellIn c ((i 0).val + 1) ∗ homeX c X ((i 0).val + 1) ∗ owes (c : Thread nD τ) 0 W) : sProp 𝕄)
    ⊢ wp frame (wpE (defs₀ (F := F)) 𝒱₀ (c : Thread nD τ) none) Set.univ (pointProg i)
      fun _ => iprop(flightOut c (i 0).val (i 0).val (i 0).val (matO c X (i 0).val) ∗ flightIn c X ((i 0).val + 1)
        ∗ homeX c X (i 0).val ∗ homeO c ((i 0).val + 7) ((og ((i 0).val + 7)).view.rep w)
        ∗ cellIn c (i 0).val ∗ cellOut c ((i 0).val + 1) ∗ ∃ W', owes (c : Thread nD τ) 0 W') := by
  have h1 := first_ne i h0
  have h2 := cond2_yes i h0 h7
  have h3 := cond3_no i h7
  iintro ⟨HI, HC, HO, HF, HD, HX, HW⟩
  dsimp only [pointProg]
  sl_unfold [cc0_sinkhorn_prob_domain]
  sl_exec
  sl_step
  isplitl [HC]
  · iapply flightOut_of c (i 0).val g _ _ _ ?hp ?hw $$ HC
    case hp =>
      unfold run_mid.sl.dma0
      exact View.read_rep _ _
    case hw =>
      rw [trips1, trips2]
      rfl
  isplitl [HD]
  · iapply flightIn_of c X ((i 0).val + 1) _ _ ?hp $$ HD
    case hp => rfl
  isplitl [HI_src]; · iexact HI_src
  isplitl [HF_dst]; · iexact HF_dst
  isplitl [HI]; · iexact HI
  isplitl [HF]; · iexact HF
  iexists _; iexact HW

set_option backward.isDefEq.respectTransparency.types false in
set_option maxHeartbeats 4000000 in
/-- The first point. -/
theorem run_first (h0 : (i 0).val = 0)
    (f0 : Buf (Elt F) ((rslot 0).view.loc (c : Thread nD τ))) (f1 : Buf (Elt F) ((rslot 1).view.loc (c : Thread nD τ)))
    (g : Buf (Elt F) ((og (i 0).val).view.loc (c : Thread nD τ))) (W : Waits sig Unit) :
    (iprop(homeX c X 0 ∗ homeX c X 1 ∗ slotAt c 0 f0 ∗ slotAt c 1 f1 ∗ cellIn c 0 ∗ cellIn c 1 ∗ cellOut c (i 0).val ∗ homeO c (i 0).val g ∗ owes (c : Thread nD τ) 0 W) : sProp 𝕄)
    ⊢ wp frame (wpE (defs₀ (F := F)) 𝒱₀ (c : Thread nD τ) none) Set.univ (pointProg i)
      fun _ => iprop(flightOut c (i 0).val (i 0).val (i 0).val (matO c X (i 0).val) ∗ flightIn c X 1 ∗ homeX c X (i 0).val ∗ cellIn c (i 0).val ∗ ∃ W', owes (c : Thread nD τ) 0 W') := by
  have h1 := first_eq i h0
  have h2 := cond2_no i (Or.inl h0)
  have h3 := cond3_no i (by omega)
  iintro ⟨HX0, HX1, HS0, HS1, HI0, HI1, HC, HO, HW⟩
  dsimp only [pointProg]
  sl_unfold [cc0_sinkhorn_prob_domain]
  sl_exec
  ihave HI0' := (flightIn_at c X 0 _ _ _ ?hs ?hp) $$ HI0
  case hs => rfl
  case hp => rfl
  ihave HI := (Entails.of_eq (show flightIn c X 0 = flightIn c X (i 0).val by rw [h0])) $$ HI0'
  sl_exec
  sl_step
  isplitl [HC]
  · iapply flightOut_of c (i 0).val g _ _ _ ?hp ?hw $$ HC
    case hp =>
      unfold run_first.sl.dma0_2
      exact View.read_rep _ _
    case hw =>
      rw [trips1, trips2]
      rfl
  isplitl [HI1]
  · iapply flightIn_at c X 1 _ _ _ ?hs ?hp $$ HI1
    case hs => rfl
    case hp => rfl
  isplitl [HI_src]; · iexact HI_src
  isplitl [HI]; · iexact HI
  iexists _; iexact HW

set_option backward.isDefEq.respectTransparency.types false in
set_option maxHeartbeats 4000000 in
/-- The last point. -/
theorem run_last (h7 : (i 0).val = 7)
    (g : Buf (Elt F) ((og (i 0).val).view.loc (c : Thread nD τ))) (w : Vec F S2048x2048 .f32) (W : Waits sig Unit) :
    (iprop(flightIn c X (i 0).val ∗ cellOut c (i 0).val ∗ homeO c (i 0).val g ∗ flightOut c ((i 0).val + 1) ((i 0).val + 7) ((i 0).val + 1) w
        ∗ owes (c : Thread nD τ) 0 W) : sProp 𝕄)
    ⊢ wp frame (wpE (defs₀ (F := F)) 𝒱₀ (c : Thread nD τ) none) Set.univ (pointProg i)
      fun _ => iprop(homeO c (i 0).val ((og (i 0).val).view.rep (matO c X (i 0).val)) ∗ homeO c ((i 0).val + 7) ((og ((i 0).val + 7)).view.rep w)
        ∗ homeX c X (i 0).val ∗ (∃ f, slotAt c (i 0).val f) ∗ slotP c ((i 0).val + 1) w
        ∗ cellIn c (i 0).val ∗ cellOut c ((i 0).val + 1) ∗ cellOut c (i 0).val ∗ ∃ W', owes (c : Thread nD τ) 0 W') := by
  have h1 := first_ne i (by omega)
  have h2 := cond2_no i (Or.inr h7)
  have h3 := cond3_yes i h7
  iintro ⟨HI, HC, HO, HF, HW⟩
  dsimp only [pointProg]
  sl_unfold [cc0_sinkhorn_prob_domain]
  sl_exec
  sl_step
  isplitl [HO]
  · iapply homeO_of c (i 0).val _ _ _ ?hp $$ HO
    case hp =>
      unfold run_last.sl.dma0
      rw [trips1, trips2]
      exact View.read_rep _ _
  isplitl [HF_dst]; · iexact HF_dst
  isplitl [HI_src]; · iexact HI_src
  isplitl [HI_dst]; · iexists _; iexact HI_dst
  isplitl [HF_src]; · iexact HF_src
  isplitl [HI]; · iexact HI
  isplitl [HF]; · iexact HF
  isplitl [HC]; · iexact HC
  iexists _; iexact HW

end Run

end Cert.Proof.KernelIdeal

end
-- ==== Proof.KernelIdeal.Groups.lean ====
/-
  The argument and the result of the kernel are eight groups, one matrix each, and the two-slot buffer is two
  slots. Which elements each covers, that they are disjoint and cover the array, and what is read through one.
-/
module

public import proofs.«01_k».proof.Proof.KernelIdeal.Point
public import Idealize.ShloMosaic.Lib.Pipeline.Value

@[expose] public section

set_option maxRecDepth 16384

noncomputable section

namespace Cert.Proof.KernelIdeal

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UU nD τ) ℕ

/-! ## Element sets -/

abbrev G8 (b : Fin 8) : Finset S8x2048x2048.Idx := (Rect.unit (s := S8x2048x2048) (grpOff b.val) S1x2048x2048.size (grpOff_inb b.val)).set
abbrev L2 (s : Fin 2) : Finset S2x2048x2048.Idx := (Rect.unit (s := S2x2048x2048) (slotOff s.val) S1x2048x2048.size (slotOff_inb s.val)).set

theorem xg_set (b : Fin 8) : (xg b.val).view.set = G8 b := (View.set_reshape _ _).trans (View.set_slice_whole _ _)
theorem og_set (b : Fin 8) : (og b.val).view.set = G8 b := (View.set_reshape _ _).trans (View.set_slice_whole _ _)
theorem rslot_set (s : Fin 2) : (rslot s.val).view.set = L2 s := (View.set_reshape _ _).trans (View.set_slice_whole _ _)

theorem mem_G8 (b : Fin 8) (y : S8x2048x2048.Idx) : y ∈ G8 b ↔ (y 0).val = b.val := by
  rw [Rect.mem_set_unit]
  have h1 : (y 1).val < 2048 := (y 1).isLt
  have h2 : (y 2).val < 2048 := (y 2).isLt
  have hb : b.val % 8 = b.val := Nat.mod_eq_of_lt b.isLt
  constructor
  · intro H; have a0 : b.val % 8 ≤ (y 0).val ∧ (y 0).val < b.val % 8 + 1 := H 0; omega
  · intro H i; fin_cases i
    · show b.val % 8 ≤ (y 0).val ∧ (y 0).val < b.val % 8 + 1; omega
    · show 0 ≤ (y 1).val ∧ (y 1).val < 0 + 2048; omega
    · show 0 ≤ (y 2).val ∧ (y 2).val < 0 + 2048; omega
theorem mem_L2 (s : Fin 2) (y : S2x2048x2048.Idx) : y ∈ L2 s ↔ (y 0).val = s.val := by
  rw [Rect.mem_set_unit]
  have h1 : (y 1).val < 2048 := (y 1).isLt
  have h2 : (y 2).val < 2048 := (y 2).isLt
  have hb : s.val % 2 = s.val := Nat.mod_eq_of_lt s.isLt
  constructor
  · intro H; have a0 : s.val % 2 ≤ (y 0).val ∧ (y 0).val < s.val % 2 + 1 := H 0; omega
  · intro H i; fin_cases i
    · show s.val % 2 ≤ (y 0).val ∧ (y 0).val < s.val % 2 + 1; omega
    · show 0 ≤ (y 1).val ∧ (y 1).val < 0 + 2048; omega
    · show 0 ≤ (y 2).val ∧ (y 2).val < 0 + 2048; omega
theorem G8_disjoint : ∀ b b' : Fin 8, b ≠ b' → Disjoint (G8 b) (G8 b') := by
  intro b b' hne; rw [Finset.disjoint_left]; intro y hy hy'; rw [mem_G8] at hy hy'; exact hne (Fin.ext (hy.symm.trans hy'))
theorem G8_cover : (Finset.univ : Finset (Fin 8)).biUnion G8 = Finset.univ := by
  ext y; simp only [Finset.mem_biUnion, Finset.mem_univ, true_and, iff_true]; exact ⟨(y 0).cast (by decide), by rw [mem_G8]; rfl⟩
theorem L2_disjoint : ∀ s s' : Fin 2, s ≠ s' → Disjoint (L2 s) (L2 s') := by
  intro s s' hne; rw [Finset.disjoint_left]; intro y hy hy'; rw [mem_L2] at hy hy'; exact hne (Fin.ext (hy.symm.trans hy'))
theorem L2_cover : (Finset.univ : Finset (Fin 2)).biUnion L2 = Finset.univ := by
  ext y; simp only [Finset.mem_biUnion, Finset.mem_univ, true_and, iff_true]; exact ⟨(y 0).cast (by decide), by rw [mem_L2]; rfl⟩

/-! ## What is read through a group -/

/-- Position `p` of matrix `b` in the batch. -/
def cell (b : Fin 8) (p : S2048x2048.Idx) : S8x2048x2048.Idx := Fin.cons (α := fun a => Fin (S8x2048x2048.size a)) b p
/-- A batch position's place in its matrix. -/
def inMat (y : S8x2048x2048.Idx) : S2048x2048.Idx := Fin.tail y
theorem inMat_cell (b : Fin 8) (p : S2048x2048.Idx) : inMat (cell b p) = p := rfl
theorem cell_inMat (y : S8x2048x2048.Idx) : cell (y 0) (inMat y) = y := Fin.cons_self_tail y

theorem read_group (c : Dev nD) (M : Memref sig .tc .hbm S8x2048x2048 .f32) (b : Fin 8) (f : M.view.ty.Contents (Elt F)) (p : S2048x2048.Idx) :
    (((M.slice (Rect.unit (s := S8x2048x2048) (grpOff b.val) S1x2048x2048.size (grpOff_inb b.val)) (fun _ => rfl)).squeeze S2048x2048 squeezes_S1x2048x2048_S2048x2048).view.read (Elt F) f) p
      = M.view.read (Elt F) f (cell b p) := by
  rw [Memref.read_squeeze_slice M _ _ _ (show S1x2048x2048.ShapeCasts S2048x2048 by decide) f]
  refine (shapeCast_dropUnit_apply ![2048, 2048] _ _ p).trans ?_
  rw [View.readAt_apply]
  congr 1
  funext a
  fin_cases a <;> apply Fin.ext
  · show b.val % 8 + 1 * 0 = b.val
    have := b.isLt; omega
  · show 0 + 1 * (p 0).val = (p 0).val; omega
  · show 0 + 1 * (p 1).val = (p 1).val; omega

section
variable (c : Dev nD) (X : Buf (Elt F) (xM.view.loc (c : Thread nD τ)))

theorem matX_apply (b : Fin 8) (p : S2048x2048.Idx) : matX c X b.val p = X (cell b p) := read_group c xM b X p

theorem matX_mod {n n' : ℕ} (h : n % 8 = n' % 8) : matX c X n = matX c X n' := by
  have e : ∀ (M : Memref sig .tc .hbm S8x2048x2048 .f32) (f : M.view.ty.Contents (Elt F)) (o o' : Fin 3 → ℕ) (ho ho'), o = o' →
      ((M.slice (Rect.unit (s := S8x2048x2048) o S1x2048x2048.size ho) (fun _ => rfl)).squeeze S2048x2048 squeezes_S1x2048x2048_S2048x2048).view.read (Elt F) f
        = ((M.slice (Rect.unit (s := S8x2048x2048) o' S1x2048x2048.size ho') (fun _ => rfl)).squeeze S2048x2048 squeezes_S1x2048x2048_S2048x2048).view.read (Elt F) f := by
    intro M f o o' ho ho' e; subst e; rfl
  exact e xM X (grpOff n) (grpOff n') (grpOff_inb n) (grpOff_inb n') (by unfold grpOff; rw [h])
theorem matO_mod {n n' : ℕ} (h : n % 8 = n' % 8) : matO c X n = matO c X n' := by unfold matO; rw [matX_mod c X h]

/-- The whole result: each matrix of the batch is the kernel's function of the same matrix of the argument. -/
def finalO : Buf (Elt F) (oM.view.loc (c : Thread nD τ)) := fun y : S8x2048x2048.Idx => matO c X (y 0).val (inMat y)

theorem read_finalO (b : Fin 8) : (og b.val).view.read (Elt F) (finalO c X) = matO c X b.val := by
  funext p
  exact read_group c oM b (finalO c X) p

/-! ## The arrays by groups -/

theorem x_groups : (((c : Thread nD τ).loc main_arg0) ↦{fullShare} X : sProp 𝕄) = bigSep Finset.univ fun b : Fin 8 => homeX c X b.val := by
  rw [Ring.pointsTo_blocks (ℓ := (c : Thread nD τ).loc main_arg0) G8 G8_disjoint G8_cover]
  exact bigSep_congr fun b _ => by rw [← xg_set]; rfl
theorem o_groups (f : Buf (Elt F) (oM.view.loc (c : Thread nD τ))) :
    (((c : Thread nD τ).loc main_v0) ↦{fullShare} f : sProp 𝕄) = bigSep Finset.univ fun b : Fin 8 => homeO c b.val f := by
  rw [Ring.pointsTo_blocks (ℓ := (c : Thread nD τ).loc main_v0) G8 G8_disjoint G8_cover]
  exact bigSep_congr fun b _ => by rw [← og_set]; rfl
/-- All groups of the result final: the result whole at its final contents. -/
theorem o_final : bigSep Finset.univ (fun b : Fin 8 => doneO c X b.val) = (((c : Thread nD τ).loc main_v0) ↦{fullShare} finalO c X : sProp 𝕄) := by
  rw [o_groups]
  refine bigSep_congr fun b _ => ?_
  have h := pointsTo_rep (Ix := Unit) (Name := ℕ) (U := UU nD τ) (Lvl := ℕ) (c : Thread nD τ) (og b.val) (finalO c X) fullShare
  rw [read_finalO] at h
  exact h.symm

theorem slotAt_eq (s : Fin 2) (f : Buf (Elt F) ((c : Thread nD τ).loc cc0_scratch0)) :
    slotAt c s.val f = (((c : Thread nD τ).loc cc0_scratch0) ↦[L2 s]{fullShare} f : sProp 𝕄) :=
  congrArg (fun S => (_ ↦[S]{fullShare} f : sProp 𝕄)) (rslot_set s)
/-- The buffer whole is its two slots, and back. -/
theorem buf_split :
    iprop(∃ f : Buf (Elt F) ((c : Thread nD τ).loc cc0_scratch0), ((c : Thread nD τ).loc cc0_scratch0) ↦{fullShare} f)
      ⊢ (iprop((∃ f, slotAt c 0 f) ∗ ∃ f, slotAt c 1 f) : sProp 𝕄) := by
  iintro ⟨%f, H⟩
  ihave H2 := (Entails.of_eq ((Ring.pointsTo_blocks (Ix := Unit) (Name := ℕ) (U := UU nD τ) (Lvl := ℕ) (q := fullShare) (ℓ := (c : Thread nD τ).loc cc0_scratch0) L2 L2_disjoint L2_cover f).trans (Ring.bigSep_fin2 _))) $$ H
  icases H2 with ⟨H0, H1⟩
  isplitl [H0]
  · iexists f; iapply (Entails.of_eq (slotAt_eq c 0 f).symm); iexact H0
  · iexists f; iapply (Entails.of_eq (slotAt_eq c 1 f).symm); iexact H1
theorem buf_join :
    iprop((∃ f, slotAt c 0 f) ∗ ∃ f, slotAt c 1 f)
      ⊢ (iprop(∃ f : Buf (Elt F) ((c : Thread nD τ).loc cc0_scratch0), ((c : Thread nD τ).loc cc0_scratch0) ↦{fullShare} f) : sProp 𝕄) := by
  iintro ⟨⟨%f0, H0⟩, ⟨%f1, H1⟩⟩
  iapply (Ring.pointsTo_blocks_join_exists (ℓ := (c : Thread nD τ).loc cc0_scratch0) L2 L2_disjoint L2_cover f0)
  irw [Ring.bigSep_fin2]
  isplitl [H0]
  · iexists f0; iapply (Entails.of_eq (slotAt_eq c 0 f0)); iexact H0
  · iexists f1; iapply (Entails.of_eq (slotAt_eq c 1 f1)); iexact H1
end

end Cert.Proof.KernelIdeal

end
-- ==== Proof.KernelIdeal.Held.lean ====
/-
  What is held between the eight points. Between point `n - 1` and point
  `n` (for `n` from 1 to 7) matrix `n` is on its way in and result `n - 1` is on its way out; before the first
  point and after the last one nothing is on its way.
-/
module

public import proofs.«01_k».proof.Proof.KernelIdeal.Groups

@[expose] public section

set_option maxRecDepth 16384

noncomputable section

namespace Cert.Proof.KernelIdeal

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Pipeline

variable {F : FTy → Type} [FloatOps F]

local notation "𝕄" => MT nD τ sig Unit (Elt F) ℕ (UU nD τ) ℕ

/-! ## What is held between two points -/

/-- The matrices held before point `n`: all but the one on its way in. -/
def xset (n : ℕ) : Finset (Fin 8) := Finset.univ.filter fun b => n = 0 ∨ b.val ≠ n
/-- The result's groups held before point `n`: all but the one on its way out. -/
def oset (n : ℕ) : Finset (Fin 8) := Finset.univ.filter fun b => n = 8 ∨ b.val + 1 ≠ n

section Held
variable (c : Dev nD) (X : Buf (Elt F) (xM.view.loc (c : Thread nD τ)))

/-- Group `b` of the result before point `n`: final if a point has been through it, else at anything. -/
def oAt (n : ℕ) (b : Fin 8) : sProp 𝕄 := if b.val < n then doneO c X b.val else iprop(∃ g, homeO c b.val g)
/-- The slots and semaphores when nothing is on its way. -/
def idle : sProp 𝕄 :=
  iprop((∃ f, slotAt c 0 f) ∗ (∃ f, slotAt c 1 f) ∗ cellIn c 0 ∗ cellIn c 1 ∗ cellOut c 0 ∗ cellOut c 1)
/-- The copies on their way before point `n`, and the two semaphores not in use. -/
def busy (n : ℕ) : sProp 𝕄 :=
  iprop(flightIn c X n ∗ flightOut c (n + 1) (n + 7) (n + 1) (matO c X (n + 7)) ∗ cellIn c (n + 1) ∗ cellOut c n)
def moving (n : ℕ) : sProp 𝕄 := if n = 0 ∨ n = 8 then idle c else busy c X n
/-- All that is held before point `n`. -/
def held (n : ℕ) : sProp 𝕄 :=
  iprop(bigSep (xset n) (fun b => homeX c X b.val) ∗ bigSep (oset n) (oAt c X n) ∗ moving c X n)

theorem take {S T : Finset (Fin 8)} (P : Fin 8 → sProp 𝕄) (b : Fin 8) (hS : S = insert b T) (hb : b ∉ T) :
    bigSep S P = iprop(P b ∗ bigSep T P) := by rw [hS, bigSep_insert hb]; rfl

/-- Matrices other than `n` and `n + 1`. -/
def xrest (n : ℕ) : Finset (Fin 8) := Finset.univ.filter fun b => b.val ≠ n ∧ b.val ≠ n + 1
/-- Groups other than `n - 1` and `n`. -/
def orest (n : ℕ) : Finset (Fin 8) := Finset.univ.filter fun b => b.val + 1 ≠ n ∧ b.val ≠ n

/-- The groups neither point `n` nor the point before it writes: their state does not change. -/
theorem oAt_rest (n : ℕ) : bigSep (orest n) (oAt c X n) = bigSep (orest n) (oAt c X (n + 1)) :=
  bigSep_congr fun b hb => by
    have h : b.val ≠ n := (Finset.mem_filter.mp hb).2.2
    unfold oAt
    by_cases h' : b.val < n
    · rw [if_pos h', if_pos (by omega)]
    · rw [if_neg h', if_neg (by omega)]
theorem oAt_new (n : ℕ) (hn : n < 8) : oAt c X n ⟨n, hn⟩ = iprop(∃ g, homeO c n g) := by unfold oAt; rw [if_neg (Nat.lt_irrefl n)]
theorem oAt_old (n k : ℕ) (hn : n < 8) (h : n < k) : oAt c X k ⟨n, hn⟩ = doneO c X n := by unfold oAt; rw [if_pos h]

/-- Before the first point. -/
theorem held_zero : held c X 0 = iprop((homeX c X 0 ∗ homeX c X 1 ∗ bigSep (xrest 0) (fun b => homeX c X b.val))
    ∗ ((∃ g, homeO c 0 g) ∗ bigSep (orest 0) (oAt c X 0)) ∗ idle c) := by
  unfold held moving
  rw [if_pos (Or.inl rfl), take (T := insert 1 (xrest 0)) _ 0 (by decide) (by decide), take (S := insert 1 (xrest 0)) _ 1 rfl (by decide),
    take (T := orest 0) (S := oset 0) _ 0 (by decide) (by decide)]
  rw [show (0 : Fin 8) = ⟨0, by omega⟩ from rfl, oAt_new]
  rfl
/-- Before any other point. -/
theorem held_some (n : ℕ) (h0 : n ≠ 0) (h8 : n < 8) (hn : n < 8 := h8) : held c X n = iprop(bigSep (xset n) (fun b => homeX c X b.val)
    ∗ ((∃ g, homeO c n g) ∗ bigSep (orest n) (oAt c X n)) ∗ busy c X n) := by
  unfold held moving
  rw [if_neg (by omega), take (T := orest n) (S := oset n) _ ⟨n, h8⟩ ?_ ?_, oAt_new]
  · ext b
    simp only [oset, orest, Finset.mem_filter, Finset.mem_univ, true_and, Finset.mem_insert, Fin.ext_iff]
    omega
  · simp [orest]
theorem xset_some (n : ℕ) (h0 : n ≠ 0) (h7 : n < 7) : bigSep (xset n) (fun b : Fin 8 => homeX c X b.val)
    = iprop(homeX c X (n + 1) ∗ bigSep (xrest n) (fun b => homeX c X b.val)) := by
  rw [take (T := xrest n) (S := xset n) _ ⟨n + 1, by omega⟩ ?_ ?_]
  · ext b
    simp only [xset, xrest, Finset.mem_filter, Finset.mem_univ, true_and, Finset.mem_insert, Fin.ext_iff]
    omega
  · simp [xrest]
/-- After a point that is not the last: its matrix is back. -/
theorem xset_next (n : ℕ) (h7 : n < 7) : bigSep (xset (n + 1)) (fun b : Fin 8 => homeX c X b.val)
    = iprop(homeX c X n ∗ bigSep (xrest n) (fun b => homeX c X b.val)) := by
  rw [take (T := xrest n) (S := xset (n + 1)) _ ⟨n, by omega⟩ ?_ ?_]
  · ext b
    simp only [xset, xrest, Finset.mem_filter, Finset.mem_univ, true_and, Finset.mem_insert, Fin.ext_iff]
    omega
  · simp [xrest]
/-- After a point in the middle: the result of the point before it is back. -/
theorem oset_next (n : ℕ) (h0 : n ≠ 0) (h7 : n < 7) : bigSep (oset (n + 1)) (oAt c X (n + 1))
    = iprop(doneO c X (n - 1) ∗ bigSep (orest n) (oAt c X n)) := by
  rw [take (T := orest n) (S := oset (n + 1)) _ ⟨n - 1, by omega⟩ ?_ ?_, oAt_old _ _ _ _ _ (by omega), oAt_rest]
  · ext b
    simp only [oset, orest, Finset.mem_filter, Finset.mem_univ, true_and, Finset.mem_insert, Fin.ext_iff]
    omega
  · simp [orest]; omega
theorem oset_one : bigSep (oset 1) (oAt c X 1) = bigSep (orest 0) (oAt c X 0) := by
  rw [oAt_rest, show oset 1 = orest 0 by decide]
/-- After the last point everything is back. -/
theorem held_last : held c X 8 = iprop((homeX c X 7 ∗ bigSep (xset 7) (fun b => homeX c X b.val))
    ∗ (doneO c X 6 ∗ doneO c X 7 ∗ bigSep (orest 7) (oAt c X 7)) ∗ idle c) := by
  unfold held moving
  rw [if_pos (Or.inr rfl), take (S := xset 8) (T := xset 7) _ 7 (by decide) (by decide),
    take (S := oset 8) (T := insert 7 (orest 7)) _ 6 (by decide) (by decide), take (S := insert 7 (orest 7)) _ 7 rfl (by decide), oAt_rest]
  rw [show (6 : Fin 8) = ⟨6, by omega⟩ from rfl, show (7 : Fin 8) = ⟨7, by omega⟩ from rfl, oAt_old _ _ _ _ _ (by omega), oAt_old _ _ _ _ _ (by omega)]

theorem held_start (f : Buf (Elt F) (oM.view.loc (c : Thread nD τ))) :
    iprop((((c : Thread nD τ).loc main_arg0) ↦{fullShare} X) ∗ (((c : Thread nD τ).loc main_v0) ↦{fullShare} f) ∗ idle c) ⊢ held c X 0 := by
  unfold held moving
  rw [if_pos (Or.inl rfl), x_groups, o_groups, show xset 0 = Finset.univ by decide, show oset 0 = Finset.univ by decide]
  iintro ⟨HX, HO, HI⟩
  isplitl [HX]; · iexact HX
  isplitl [HO]
  · iapply (show bigSep Finset.univ (fun b : Fin 8 => homeO c b.val f) ⊢ bigSep Finset.univ (oAt c X 0) from
      bigSep_mono fun b _ => by
        unfold oAt; rw [if_neg (Nat.not_lt_zero _)]
        exact show (homeO c b.val f : sProp 𝕄) ⊢ iprop(∃ g, homeO c b.val g) from by iintro H; iexists f; iexact H)
    iexact HO
  iexact HI
theorem held_end : held c X 8 ⊢
    iprop((((c : Thread nD τ).loc main_arg0) ↦{fullShare} X) ∗ (((c : Thread nD τ).loc main_v0) ↦{fullShare} finalO c X) ∗ idle c) := by
  unfold held moving
  rw [if_pos (Or.inr rfl), x_groups, ← o_final, show xset 8 = Finset.univ by decide, show oset 8 = Finset.univ by decide,
    show (bigSep Finset.univ (oAt c X 8) : sProp 𝕄) = bigSep Finset.univ (fun b : Fin 8 => doneO c X b.val) from
      bigSep_congr fun b _ => by unfold oAt; rw [if_pos b.isLt]]

end Held

end Cert.Proof.KernelIdeal

end
-- ==== Proof.KernelIdeal.Launch.lean ====
/-
  The whole launch: the eight points in order. It ends, the argument is unchanged, every semaphore is at zero,
  and the result holds, matrix by matrix, the kernel's function of the argument's matrix.
-/
module

public import proofs.«01_k».proof.Proof.KernelIdeal.Held

@[expose] public section

set_option maxRecDepth 16384

noncomputable section

namespace Cert.Proof.KernelIdeal

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Pipeline

variable {F : FTy → Type} [FloatOps F]

local notation "𝕄" => MT nD τ sig Unit (Elt F) ℕ (UU nD τ) ℕ

/-! ## One point, from what is held before it to what is held after it -/

section Step
variable (c : Dev nD) (X : Buf (Elt F) (xM.view.loc (c : Thread nD τ))) (i : grid0.Coords)

/-- The copy of result `n` out, as the next point names it. -/
theorem flightOut_next (n k : ℕ) (h : n + 1 = k) :
    flightOut c n n n (matO c X n) = flightOut c (k + 1) (k + 7) (k + 1) (matO c X (k + 7)) := by
  rw [matO_mod c X (show (k + 7) % 8 = n % 8 by omega)]
  exact flightOut_congr c _ (by omega) (by omega) (by omega)

theorem step_first (h0 : (i 0).val = 0) (W : Waits sig Unit) :
    (iprop(held c X 0 ∗ owes (c : Thread nD τ) 0 W) : sProp 𝕄)
    ⊢ wp frame (wpE (defs₀ (F := F)) 𝒱₀ (c : Thread nD τ) none) Set.univ (pointProg i)
      fun _ => iprop(held c X 1 ∗ ∃ W', owes (c : Thread nD τ) 0 W') := by
  rw [held_zero]
  unfold idle
  iintro ⟨⟨⟨HX0, HX1, HXR⟩, ⟨⟨%g, HO⟩, HOR⟩, ⟨⟨%f0, HS0⟩, ⟨%f1, HS1⟩, HI0, HI1, HC0, HC1⟩⟩, HW⟩
  have hg := og_mod (n := 0) (n' := (i 0).val) (by rw [h0])
  ihave HC := (Entails.of_eq (show (cellOut (F := F) c 0) = cellOut c (i 0).val by rw [h0])) $$ HC0
  ihave HO' := (show (homeO c 0 g : sProp 𝕄) ⊢ iprop(∃ g, homeO c (i 0).val g) from by rw [h0]; iintro H; iexists g; iexact H) $$ HO
  icases HO' with ⟨%g', HO'⟩
  iapply wp_wand_r
  isplitl [HX0 HX1 HS0 HS1 HI0 HI1 HC HO' HW]
  · iapply (run_first c X i h0 f0 f1 g' W)
    isplitl [HX0]; · iexact HX0
    isplitl [HX1]; · iexact HX1
    isplitl [HS0]; · iexact HS0
    isplitl [HS1]; · iexact HS1
    isplitl [HI0]; · iexact HI0
    isplitl [HI1]; · iexact HI1
    isplitl [HC]; · iexact HC
    isplitl [HO']; · iexact HO'
    iexact HW
  iintro %a ⟨HF, HD, HX0, HI, HW⟩
  isplitr [HW]
  · unfold held moving busy
    rw [if_neg (by omega), xset_next c X 0 (by omega), oset_one]
    isplitl [HX0 HXR]
    · isplitl [HX0]
      · iapply (Entails.of_eq (show homeX c X (i 0).val = homeX c X 0 by rw [h0])); iexact HX0
      iexact HXR
    isplitl [HOR]; · iexact HOR
    isplitl [HD]; · iexact HD
    isplitl [HF]
    · iapply (Entails.of_eq (flightOut_next c X (i 0).val 1 (by omega)))
      iexact HF
    isplitl [HI]
    · iapply (Entails.of_eq (show cellIn (F := F) c (i 0).val = cellIn c (1 + 1) by unfold cellIn; rw [cin_mod (show (i 0).val % 2 = (1 + 1) % 2 by omega)]))
      iexact HI
    iexact HC1
  iexact HW

theorem step_mid (h0 : (i 0).val ≠ 0) (h7 : (i 0).val < 7) (W : Waits sig Unit) :
    (iprop(held c X (i 0).val ∗ owes (c : Thread nD τ) 0 W) : sProp 𝕄)
    ⊢ wp frame (wpE (defs₀ (F := F)) 𝒱₀ (c : Thread nD τ) none) Set.univ (pointProg i)
      fun _ => iprop(held c X ((i 0).val + 1) ∗ ∃ W', owes (c : Thread nD τ) 0 W') := by
  rw [held_some c X _ h0 (by omega), xset_some c X _ h0 h7]
  unfold busy
  iintro ⟨⟨⟨HX, HXR⟩, ⟨⟨%g, HO⟩, HOR⟩, HD, HF, HI, HC⟩, HW⟩
  iapply wp_wand_r
  isplitl [HX HO HD HF HI HC HW]
  · iapply (run_mid c X i h0 (by omega) g _ W)
    isplitl [HD]; · iexact HD
    isplitl [HC]; · iexact HC
    isplitl [HO]; · iexact HO
    isplitl [HF]; · iexact HF
    isplitl [HI]; · iexact HI
    isplitl [HX]; · iexact HX
    iexact HW
  iintro %a ⟨HF, HD, HX, HO, HI, HC, HW⟩
  isplitr [HW]
  · unfold held moving busy
    rw [if_neg (by omega), xset_next c X _ h7, oset_next c X _ h0 h7]
    isplitl [HX HXR]
    · isplitl [HX]; · iexact HX
      iexact HXR
    isplitl [HO HOR]
    · isplitl [HO]
      · iapply (Entails.of_eq ((doneO_congr c (matO c X ((i 0).val + 7)) (show ((i 0).val + 7) % 8 = ((i 0).val - 1) % 8 by omega)).trans
          (by rw [matO_mod c X (show ((i 0).val + 7) % 8 = ((i 0).val - 1) % 8 by omega)])))
        iexact HO
      iexact HOR
    isplitl [HD]; · iexact HD
    isplitl [HF]
    · iapply (Entails.of_eq (flightOut_next c X (i 0).val ((i 0).val + 1) (by omega)))
      iexact HF
    isplitl [HI]
    · iapply (Entails.of_eq (show cellIn (F := F) c (i 0).val = cellIn c ((i 0).val + 1 + 1) by
        unfold cellIn; rw [cin_mod (show (i 0).val % 2 = ((i 0).val + 1 + 1) % 2 by omega)]))
      iexact HI
    iexact HC
  iexact HW

theorem step_last (h7 : (i 0).val = 7) (W : Waits sig Unit) :
    (iprop(held c X 7 ∗ owes (c : Thread nD τ) 0 W) : sProp 𝕄)
    ⊢ wp frame (wpE (defs₀ (F := F)) 𝒱₀ (c : Thread nD τ) none) Set.univ (pointProg i)
      fun _ => iprop(held c X 8 ∗ ∃ W', owes (c : Thread nD τ) 0 W') := by
  rw [held_last]
  have e : (7 : ℕ) = (i 0).val := h7.symm
  rw [held_some c X 7 (by omega) (by omega)]
  unfold busy idle
  iintro ⟨⟨HXR, ⟨⟨%g, HO⟩, HOR⟩, HD, HF, HI, HC⟩, HW⟩
  ihave HO' := (show (homeO c 7 g : sProp 𝕄) ⊢ iprop(∃ g, homeO c (i 0).val g) from by rw [h7]; iintro H; iexists g; iexact H) $$ HO
  icases HO' with ⟨%g', HO'⟩
  iapply wp_wand_r
  isplitl [HO' HD HF HC HW]
  · iapply (run_last c X i h7 g' (matO c X (7 + 7)) W)
    rw [h7]
    isplitl [HD]; · iexact HD
    isplitl [HC]; · iexact HC
    isplitl [HO']; · iexact HO'
    isplitl [HF]; · iexact HF
    iexact HW
  rw [h7]
  iintro %a ⟨HO, HP, HX, ⟨%f, HS⟩, HS', HI', HC', HC, HW⟩
  isplitr [HW]
  · isplitl [HX HXR]
    · isplitl [HX]; · iexact HX
      iexact HXR
    isplitl [HO HP HOR]
    · isplitl [HP]
      · iapply (Entails.of_eq ((doneO_congr c (matO c X (7 + 7)) (show (7 + 7) % 8 = 6 % 8 by omega)).trans
          (by rw [matO_mod c X (show (7 + 7) % 8 = 6 % 8 by omega)])))
        iexact HP
      isplitl [HO]; · iexact HO
      iexact HOR
    isplitl [HS']
    · iexists _; iexact HS'
    isplitl [HS]
    · iexists _; iexact HS
    isplitl [HI]; · iexact HI
    isplitl [HI']; · iexact HI'
    isplitl [HC']; · iexact HC'
    iexact HC
  iexact HW

theorem step (n : ℕ) (hn : (i 0).val = n) (W : Waits sig Unit) :
    (iprop(held c X n ∗ owes (c : Thread nD τ) 0 W) : sProp 𝕄)
    ⊢ wp frame (wpE (defs₀ (F := F)) 𝒱₀ (c : Thread nD τ) none) Set.univ (pointProg i)
      fun _ => iprop(held c X (n + 1) ∗ ∃ W', owes (c : Thread nD τ) 0 W') := by
  have hb : (i 0).val < 8 := (i 0).isLt
  subst hn
  by_cases h0 : (i 0).val = 0
  · have := step_first c X i h0 W; rw [h0]; exact this
  by_cases h7 : (i 0).val = 7
  · have := step_last c X i h7 W; rw [h7]; exact this
  exact step_mid c X i h0 (by omega) W

end Step

/-! ## The launch -/

section Launch
variable (m : (ℓ : Loc nD τ sig) → Buf (Elt F) ℓ) (ρ : Dev nD → PrngReg)

/-- The argument at launch. -/
abbrev argX (c : Dev nD) : Buf (Elt F) (xM.view.loc (c : Thread nD τ)) := m ((c : Thread nD τ).loc main_arg0)

/-- The kernel's own semaphores: in and out, slot 0 and slot 1. -/
abbrev osem : Fin 4 → SemLoc sig := fun
  | 0 => .dma (cin 0).sem | 1 => .dma (cin 1).sem | 2 => .dma (cout 0).sem | 3 => .dma (cout 1).sem
theorem ownSemFacts : Pipeline.OwnSemFacts (cfg0.spec) osem := by decide
theorem ownSems0_eq (c : Dev nD) : (Pipeline.ownSems0 (Ix := Unit) (Name := ℕ) (U := UU nD τ) (Lvl := ℕ) (Val := Elt F) (τ := τ) osem c : sProp 𝕄)
    = iprop(cellIn c 0 ∗ cellIn c 1 ∗ cellOut c 0 ∗ cellOut c 1) :=
  Pipeline.ownSems0_eq_of_list c osem [0, 1, 2, 3] (by decide) (by decide)

def dats (_ : Fin 1) (c : Dev nD) : Dat τ (Elt F) Unit ℕ (UU nD τ) ℕ cfg0 c where
  A w := w.elim0
  after w t := w.elim0
  Φ k := held c (argX m c) k.val
  q _ := fullShare
  owed _ := 0

theorem coord : ∀ t : Fin grid0.N, (grid0.coords t 0).val = t.val := by decide +kernel

theorem defs_tc : (defs₀ (F := F)) .tc cfg0.body = fun a => pointProg (grid0.coords a.1) := rfl
theorem prog_eq (t : Fin cfg0.N) : (defs₀ (F := F)) .tc cfg0.body (cfg0.bodyArgs t (cfg0.slots t)) = pointProg (grid0.coords t) :=
  (congrFun defs_tc _).trans rfl

set_option backward.isDefEq.respectTransparency.types false in
theorem body_obligation (c : Dev nD) : BodyObligation (dats (F := F) m 0 c) (defs₀ (F := F)) 𝒱₀ () Set.univ := fun t => by
  rw [show (dats m 0 c).Φ t.castSucc = held c (argX m c) t.val from rfl, show (dats m 0 c).Φ t.succ = held c (argX m c) (t.val + 1) from rfl]
  unfold Dat.owesAt Pipeline.owesWithin
  rw [show (dats m 0 c).owed t.castSucc = 0 from rfl, show (dats m 0 c).owed t.succ = 0 from rfl]
  iintro ⟨H, ⟨%W, -, HW⟩, HB⟩
  sl_rw [prog_eq t]
  iapply wp_wand_r
  isplitl [H HW]
  · iapply (step c (argX m c) (grid0.coords t) t.val (coord t) W)
    isplitl [H]; · iexact H
    iexact HW
  iintro %a ⟨H, ⟨%W', HW⟩⟩
  isplitl [H]; · iexact H
  isplitl [HW]
  · iexists W'; isplitr; · ipureintro; exact fun _ _ => Or.inl trivial
    iexact HW
  iexact HB

abbrev EP : Emb (UR sig nD τ) (MT nD τ sig Unit (Elt F) ℕ (UU nD τ) ℕ) := embL
/-- What enters the launch on a core, and what comes out of it. -/
def intoΦ (c : Dev nD) : sProp 𝕄 :=
  iprop((((c : Thread nD τ).loc main_arg0) ↦{fullShare} argX m c) ∗ (((c : Thread nD τ).loc main_v0) ↦{fullShare} m ((c : Thread nD τ).loc main_v0))
    ∗ Pipeline.ownSems0 osem c)
def outOfΦ (c : Dev nD) : sProp 𝕄 :=
  iprop((((c : Thread nD τ).loc main_arg0) ↦{fullShare} argX m c) ∗ (((c : Thread nD τ).loc main_v0) ↦{fullShare} finalO c (argX m c)))
def u₀ : UU nD τ := (initOf (Pipeline.cells cfgs cellOf_inj) (Pipeline.launchToks cfgs cellOf_inj), 1)
/-- At the end: the result, and the argument unchanged. -/
def QY (c : Dev nD) (s : MemSt nD τ sig (Elt F)) : Prop :=
  s.mem ((c : Thread nD τ).loc main_v0) = finalO c (argX m c) ∧ s.mem ((c : Thread nD τ).loc main_arg0) = m ((c : Thread nD τ).loc main_arg0)

set_option backward.isDefEq.respectTransparency.types false in
/-- From any memory with every semaphore at zero the kernel ends, on every core with the result at `finalO` of the
    argument and the argument unchanged, and with every semaphore at zero. -/
theorem run_main : θ_run defs (onTc (τ := τ) (main (F := F))) ⟨m, fun _ => 0, ρ⟩ (fun r => (∀ c, QY m c r.2) ∧ r.2.sem = fun _ => 0) :=
  Pipeline.θ_run_region_kit_quiescent cfgs (dats m) () (0 : Fin 1) launch0 ownSemFacts EP defs₀ 𝒱₀ m ρ main
    (hbody := fun c => (body_obligation m c).loose) (hshare := fun c => (dats m 0 c).share_full fun _ => rfl)
    (howed := fun _ _ => rfl)
    (G := fun _ => iprop(emp)) (u₀ := u₀)
    (hu₀ := by
      unfold u₀
      iintro Hu
      ihave H := (ownU_pair _ _) $$ Hu
      icases H with ⟨HP, -⟩
      imodintro
      isplitl [HP]; · iexact HP
      iapply (show (BI.emp : sProp 𝕄) ⊢ bigSep Finset.univ (fun _ : Dev nD => (BI.emp : sProp 𝕄)) from by rw [BI.bigSep_emp_const])
      iempintro)
    (V := fun c b => m ((c : Thread nD τ).loc b))
    (hmain := fun c Q => by
      simp only [main, Prog.lift, Prog.bind_op, Prog.bind_ret]
      iintro ⟨Hk, Hb⟩; iapply Hk; iexact Hb)
    (hA := fun _ w => w.elim0)
    (X := intoΦ m) (Y := outOfΦ m) (Z := fun _ => iprop(emp))
    (hX := fun c => by
      rw [unscopedRest0_eq]
      unfold intoΦ
      iintro ⟨⟨H0, H1⟩, HS, -, -, -⟩; imodintro
      isplitl [H0 H1 HS]
      · isplitl [H0]; · iexact H0
        isplitl [H1]; · iexact H1
        iexact HS
      iempintro)
    (hin := fun c => by
      rw [scopedRest0_eq, show (dats m 0 c).Φ 0 = held c (argX m c) 0 from rfl]
      unfold intoΦ; rw [ownSems0_eq]
      iintro ⟨⟨H0, H1, HS⟩, Hb⟩
      iapply (held_start c (argX m c) (m ((c : Thread nD τ).loc main_v0)))
      isplitl [H0]; · iexact H0
      isplitl [H1]; · iexact H1
      ihave Hs := (buf_split c) $$ Hb
      icases Hs with ⟨Hs0, Hs1⟩
      unfold idle
      isplitl [Hs0]; · iexact Hs0
      isplitl [Hs1]; · iexact Hs1
      iexact HS)
    (hout := fun c => by
      rw [scopedRest0_eq, show (dats m 0 c).Φ (Fin.last cfg0.N) = held c (argX m c) 8 from rfl, ownSems0_eq]
      unfold outOfΦ
      iintro H
      ihave H' := (held_end c (argX m c)) $$ H
      unfold idle
      icases H' with ⟨H0, H1, Hs0, Hs1, HS⟩
      isplitl [H0 H1]
      · isplitl [H0]; · iexact H0
        iexact H1
      isplitl [HS]; · iexact HS
      iapply (buf_join c)
      isplitl [Hs0]; · iexact Hs0
      iexact Hs1)
    (QY := QY m)
    (hY := fun c s' => by
      unfold outOfΦ
      iintro ⟨⟨H0, H1⟩, -, HSI⟩
      icombine HSI H0 gives %h0
      icombine HSI H1 gives %h1
      imodintro
      isplitr; · ipureintro; exact ⟨Buf.eq_of_forall_mem_univ h1, Buf.eq_of_forall_mem_univ h0⟩
      iexact HSI)
    (hQ := fun _ hh hz => ⟨fun c => (hh c).2, hz⟩)

end Launch

end Cert.Proof.KernelIdeal

end
-- ==== Proof.Frames.lean ====
/-
  The three frame claims: each program ends from any memory, its argument unchanged, every semaphore at zero.
-/
module

public import proofs.«01_k».proof.Defs
public import proofs.«01_k».proof.Proof.KernelIdeal.Launch
public import proofs.«01_k».proof.Proof.Kernel.Launch
public import proofs.«01_k».proof.Proof.Gen.ReferenceIdeal.Run
public import Idealize.ShloMosaic.Adequacy
public import Idealize.ShloMosaic.Init

@[expose] public section

noncomputable section

namespace Cert.Proof

open Idealize.ShloMosaic Idealize.ShloMosaic.TcCoe Idealize.SL.Sem

/-- The kernel at machine floats. -/
theorem frame_kernel : Cert.quiescent_Kernel := fun m ρ _ =>
  (θ_run Cert.Kernel.defs _ _).mono (fun _ h => ⟨fun c => (h.1 c).2, h.2⟩) (Kernel.run_main (F := Bits) m ρ)

/-- The kernel at the extended reals. -/
theorem frame_kernelIdeal : Cert.quiescent_KernelIdeal := fun m ρ _ =>
  (θ_run Cert.KernelIdeal.defs _ _).mono (fun _ h => ⟨fun c => (h.1 c).2, h.2⟩) (KernelIdeal.run_main (F := Ideal) m ρ)

/-- The reference at the extended reals; it declares no semaphore. -/
theorem frame_referenceIdeal : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

end Cert.Proof

end
-- ==== Proof.Maths.Scales.lean ====
/-
  Row and column normalisation of a nonnegative real matrix, and the scales that carry it: after `k` rounds
  the matrix is `e i j * (a i * b j)` for a row scale `a` and a column scale `b`, and each round replaces the
  scales by the reciprocals of the scaled row and column sums. A zero sum has reciprocal zero; it belongs to
  a zero row or column.
-/
module

public import Mathlib.Data.Real.Basic
public import Mathlib.Algebra.BigOperators.Ring.Finset
public import Mathlib.Algebra.Order.BigOperators.Group.Finset
public import Mathlib.Tactic.Ring
public import Mathlib.Tactic.FieldSimp
public import Mathlib.Tactic.Positivity

@[expose] public section

noncomputable section

namespace Cert.Proof.Maths

variable {ι κ : Type} [Fintype ι] [Fintype κ]

/-- Each entry over its row's sum. -/
def normRow (A : ι → κ → ℝ) (i : ι) (j : κ) : ℝ := A i j * (∑ j', A i j')⁻¹
/-- Each entry over its column's sum. -/
def normCol (A : ι → κ → ℝ) (i : ι) (j : κ) : ℝ := A i j * (∑ i', A i' j)⁻¹
/-- One round: rows, then columns. -/
def normRound (A : ι → κ → ℝ) : ι → κ → ℝ := normCol (normRow A)

/-- The reciprocals of the row sums of `e` with its columns scaled by `b`. -/
def rowScale (e : ι → κ → ℝ) (b : κ → ℝ) (i : ι) : ℝ := (∑ j, e i j * b j)⁻¹
/-- The reciprocals of the column sums of `e` with its rows scaled by `a`. -/
def colScale (e : ι → κ → ℝ) (a : ι → ℝ) (j : κ) : ℝ := (∑ i, e i j * a i)⁻¹
/-- One round on the column scale. -/
def nextScale (e : ι → κ → ℝ) (b : κ → ℝ) : κ → ℝ := colScale e (rowScale e b)

/-- A row scale that is nonnegative, and positive at every row that has an entry. -/
def RowOk (e : ι → κ → ℝ) (a : ι → ℝ) : Prop := (∀ i, 0 ≤ a i) ∧ ∀ i j, e i j ≠ 0 → 0 < a i
/-- A column scale that is nonnegative, and positive at every column that has an entry. -/
def ColOk (e : ι → κ → ℝ) (b : κ → ℝ) : Prop := (∀ j, 0 ≤ b j) ∧ ∀ i j, e i j ≠ 0 → 0 < b j

variable {e : ι → κ → ℝ}

theorem rowSum_pos (he : ∀ i j, 0 ≤ e i j) {b : κ → ℝ} (hb : ColOk e b) {i : ι} {j : κ} (h : e i j ≠ 0) :
    0 < ∑ j, e i j * b j :=
  lt_of_lt_of_le (mul_pos (lt_of_le_of_ne (he i j) (Ne.symm h)) (hb.2 i j h))
    (Finset.single_le_sum (f := fun j => e i j * b j) (fun k _ => mul_nonneg (he i k) (hb.1 k)) (Finset.mem_univ j))

theorem colSum_pos (he : ∀ i j, 0 ≤ e i j) {a : ι → ℝ} (ha : RowOk e a) {i : ι} {j : κ} (h : e i j ≠ 0) :
    0 < ∑ i, e i j * a i :=
  rowSum_pos (e := fun j i => e i j) (fun j i => he i j) (b := a) ⟨ha.1, fun j i h => ha.2 i j h⟩ h

theorem rowScale_ok (he : ∀ i j, 0 ≤ e i j) {b : κ → ℝ} (hb : ColOk e b) : RowOk e (rowScale e b) :=
  ⟨fun i => inv_nonneg.2 (Finset.sum_nonneg fun j _ => mul_nonneg (he i j) (hb.1 j)),
    fun _ _ h => inv_pos.2 (rowSum_pos he hb h)⟩

theorem colScale_ok (he : ∀ i j, 0 ≤ e i j) {a : ι → ℝ} (ha : RowOk e a) : ColOk e (colScale e a) :=
  ⟨fun j => inv_nonneg.2 (Finset.sum_nonneg fun i _ => mul_nonneg (he i j) (ha.1 i)),
    fun _ _ h => inv_pos.2 (colSum_pos he ha h)⟩

theorem nextScale_ok (he : ∀ i j, 0 ≤ e i j) {b : κ → ℝ} (hb : ColOk e b) : ColOk e (nextScale e b) :=
  colScale_ok he (rowScale_ok he hb)

theorem ones_ok : ColOk e fun _ => 1 := ⟨fun _ => zero_le_one, fun _ _ _ => one_pos⟩

theorem iterScale_ok (he : ∀ i j, 0 ≤ e i j) : ∀ k, ColOk e ((nextScale e)^[k] fun _ => 1)
  | 0 => ones_ok
  | k + 1 => by rw [Function.iterate_succ_apply']; exact nextScale_ok he (iterScale_ok he k)

/-- Normalising the rows of a scaled matrix replaces its row scale. -/
theorem normRow_scaled {a : ι → ℝ} {b : κ → ℝ} (ha : RowOk e a) :
    normRow (fun i j => e i j * (a i * b j)) = fun i j => e i j * (rowScale e b i * b j) := by
  funext i j
  by_cases h : e i j = 0
  · simp [normRow, h]
  have hs : ∑ j', e i j' * (a i * b j') = a i * ∑ j', e i j' * b j' := by
    rw [Finset.mul_sum]; exact Finset.sum_congr rfl fun j' _ => by ring
  have hp := (ha.2 i j h).ne'
  simp only [normRow, rowScale, hs, mul_inv]
  field_simp

/-- Normalising the columns of a scaled matrix replaces its column scale. -/
theorem normCol_scaled {a : ι → ℝ} {b : κ → ℝ} (hb : ColOk e b) :
    normCol (fun i j => e i j * (a i * b j)) = fun i j => e i j * (a i * colScale e a j) := by
  have h := normRow_scaled (e := fun j i => e i j) (a := b) (b := a) ⟨hb.1, fun j i h => hb.2 i j h⟩
  funext i j
  have h' := congrFun (congrFun h j) i
  simp only [normRow, rowScale] at h'
  simp only [normCol, colScale]
  rw [mul_comm (a i) (∑ i, e i j * a i)⁻¹, ← h', mul_comm (b j) (a i)]
  simp only [mul_comm (b j)]

/-- A round on a scaled matrix. -/
theorem normRound_scaled (he : ∀ i j, 0 ≤ e i j) {a : ι → ℝ} {b : κ → ℝ} (ha : RowOk e a) (hb : ColOk e b) :
    normRound (fun i j => e i j * (a i * b j)) = fun i j => e i j * (rowScale e b i * nextScale e b j) := by
  rw [normRound, normRow_scaled ha, normCol_scaled hb]; rfl

/-- After `k + 1` rounds from `e`. -/
theorem normRound_iterate (he : ∀ i j, 0 ≤ e i j) (k : ℕ) :
    normRound^[k + 1] e = fun i j => e i j *
      (rowScale e ((nextScale e)^[k] fun _ => 1) i * ((nextScale e)^[k + 1] fun _ => 1) j) := by
  induction k with
  | zero =>
    have h := normRound_scaled he (a := fun _ => 1) (b := fun _ => 1) ⟨fun _ => zero_le_one, fun _ _ _ => one_pos⟩ ones_ok
    simp only [mul_one] at h
    exact h
  | succ k ih =>
    rw [Function.iterate_succ_apply', ih,
      normRound_scaled he (rowScale_ok he (iterScale_ok he k)) (iterScale_ok he (k + 1))]
    rw [Function.iterate_succ_apply' (nextScale e) (k + 1)]

end Cert.Proof.Maths

end
-- ==== Proof.Maths.Extended.lean ====
/-
  The same normalisations over the extended reals, and what they have to do with logarithms: subtracting a
  row's log-sum-exp from the row is, under the exponential, division by the row's sum. This holds for every
  extended real: a row of minus infinities, or with a plus infinity in it, becomes a row of zeros both ways.
-/
module

public import proofs.«01_k».proof.Proof.Maths.Scales
public import Idealize.ShloMosaic.PureOps.Ideal
public import Mathlib.Data.EReal.Inv

@[expose] public section

noncomputable section

namespace Cert.Proof.Maths

open Idealize.ShloMosaic

variable {ι κ : Type} [Fintype ι] [Fintype κ]

theorem coe_sum (f : κ → ℝ) : ((∑ k, f k : ℝ) : EReal) = ∑ k, (f k : EReal) :=
  map_sum (⟨⟨fun x : ℝ => (x : EReal), EReal.coe_zero⟩, EReal.coe_add⟩ : ℝ →+ EReal) f _

theorem sum_mul_of_nonneg (f : κ → EReal) (hf : ∀ k, 0 ≤ f k) (c : EReal) : ∑ k, f k * c = (∑ k, f k) * c := by
  classical
  have h : ∀ s : Finset κ, ∑ k ∈ s, f k * c = (∑ k ∈ s, f k) * c := by
    intro s
    induction s using Finset.induction_on with
    | empty => simp
    | insert a s ha ih =>
      rw [Finset.sum_insert ha, Finset.sum_insert ha, ih,
        EReal.right_distrib_of_nonneg (hf a) (Finset.sum_nonneg fun k _ => hf k)]
  exact h _

theorem exp_nonneg (x : EReal) : 0 ≤ Ideal.exp x := by
  induction x with
  | bot => simp
  | top => simp
  | coe r => rw [Ideal.exp_coe]; exact_mod_cast (Real.exp_pos r).le

theorem exp_sub_coe (x : EReal) (M : ℝ) : Ideal.exp (x - (M : EReal)) = Ideal.exp x * ((Real.exp (-M) : ℝ) : EReal) := by
  induction x with
  | bot => simp
  | top => rw [EReal.top_sub_coe, Ideal.exp_top, EReal.top_mul_coe_of_pos (Real.exp_pos _)]
  | coe r => rw [← EReal.coe_sub, Ideal.exp_coe, Ideal.exp_coe, ← EReal.coe_mul, ← Real.exp_add, sub_eq_add_neg]

theorem log_mul_exp (s : EReal) (hs : 0 ≤ s) (M : ℝ) :
    Ideal.log (s * ((Real.exp (-M) : ℝ) : EReal)) + (M : EReal) = Ideal.log s := by
  induction s with
  | bot => simp at hs
  | top => rw [EReal.top_mul_coe_of_pos (Real.exp_pos _), Ideal.log_top, EReal.top_add_coe]
  | coe r =>
    have hr : 0 ≤ r := by exact_mod_cast hs
    rw [← EReal.coe_mul, Ideal.log_coe, Ideal.log_coe]
    rcases hr.eq_or_lt with h | h
    · subst h; simp
    · rw [if_neg (not_le.2 (mul_pos h (Real.exp_pos _))), if_neg (not_le.2 h), ← EReal.coe_add,
        Real.log_mul h.ne' (Real.exp_pos _).ne', Real.log_exp, neg_add_cancel_right]

/-- The log-sum-exp of a row, shifted by any real number. -/
theorem logSumExp_shift (z : κ → EReal) (M : ℝ) :
    Ideal.log (∑ k, Ideal.exp (z k - (M : EReal))) + (M : EReal) = Ideal.log (∑ k, Ideal.exp (z k)) := by
  simp only [exp_sub_coe]
  rw [sum_mul_of_nonneg _ fun k => exp_nonneg _]
  exact log_mul_exp _ (Finset.sum_nonneg fun k _ => exp_nonneg _) M

theorem exp_sub_log (x S : EReal) (h : Ideal.exp x ≤ S) : Ideal.exp (x - Ideal.log S) = Ideal.exp x * S⁻¹ := by
  induction S with
  | bot => exact absurd ((exp_nonneg x).trans h) (by simp)
  | top => rw [Ideal.log_top, EReal.sub_top, Ideal.exp_bot, EReal.inv_top, mul_zero]
  | coe s =>
    induction x with
    | bot => simp
    | top => rw [Ideal.exp_top] at h; exact absurd (top_le_iff.1 h) (EReal.coe_ne_top s)
    | coe r =>
      rw [Ideal.exp_coe] at h ⊢
      have hs : 0 < s := lt_of_lt_of_le (Real.exp_pos r) (by exact_mod_cast h)
      rw [Ideal.log_coe, if_neg (not_le.2 hs), ← EReal.coe_sub, Ideal.exp_coe, ← EReal.coe_inv, ← EReal.coe_mul,
        Real.exp_sub, Real.exp_log hs, div_eq_mul_inv]

/-- A row less its log-sum-exp, under the exponential. -/
theorem exp_sub_logSumExp (z : κ → EReal) (M : ℝ) (j : κ) :
    Ideal.exp (z j - (Ideal.log (∑ k, Ideal.exp (z k - (M : EReal))) + (M : EReal)))
      = Ideal.exp (z j) * (∑ k, Ideal.exp (z k))⁻¹ := by
  rw [logSumExp_shift]
  exact exp_sub_log _ _ (Finset.single_le_sum (f := fun k => Ideal.exp (z k)) (fun k _ => exp_nonneg _) (Finset.mem_univ j))

/-! ### The maximum of a row -/

/-- The row's maximum. -/
def rowMax (z : κ → EReal) : EReal := Finset.univ.fold max ⊥ z

theorem le_rowMax (z : κ → EReal) (j : κ) : z j ≤ rowMax z :=
  (Finset.le_fold_max _).2 (Or.inr ⟨j, Finset.mem_univ j, le_rfl⟩)

theorem exists_eq_top_of_rowMax {z : κ → EReal} (h : rowMax z = ⊤) : ∃ j, z j = ⊤ := by
  have h' : (⊤ : EReal) ≤ rowMax z := h.ge
  rcases (Finset.le_fold_max _).1 h' with h | ⟨j, -, h⟩
  · simp at h
  · exact ⟨j, top_le_iff.1 h⟩

/-- The exponentials of a row less its maximum are real numbers. -/
theorem exp_sub_rowMax_coe (z : κ → EReal) (j : κ) : ∃ r : ℝ, 0 ≤ r ∧ Ideal.exp (z j - rowMax z) = (r : EReal) := by
  have hle := le_rowMax z j
  generalize rowMax z = m at hle
  generalize z j = x at hle
  induction m with
  | bot => rw [le_bot_iff] at hle; subst hle; exact ⟨0, le_rfl, by simp⟩
  | top => exact ⟨0, le_rfl, by rw [EReal.sub_top]; simp⟩
  | coe m =>
    induction x with
    | bot => exact ⟨0, le_rfl, by simp⟩
    | top => exact absurd (top_le_iff.1 hle) (EReal.coe_ne_top m)
    | coe r => exact ⟨Real.exp (r - m), (Real.exp_pos _).le, by rw [← EReal.coe_sub, Ideal.exp_coe]⟩

/-- Dividing a row of exponentials by its sum does not see the maximum taken off. -/
theorem exp_sub_rowMax_mul_inv (z : κ → EReal) (j : κ) :
    Ideal.exp (z j - rowMax z) * (∑ k, Ideal.exp (z k - rowMax z))⁻¹ = Ideal.exp (z j) * (∑ k, Ideal.exp (z k))⁻¹ := by
  rcases eq_or_ne (rowMax z) ⊥ with hb | hb
  · have hz : ∀ k, z k = ⊥ := fun k => le_bot_iff.1 (hb ▸ le_rowMax z k)
    simp [hz]
  rcases eq_or_ne (rowMax z) ⊤ with ht | ht
  · obtain ⟨i, hi⟩ := exists_eq_top_of_rowMax ht
    have hs : (∑ k, Ideal.exp (z k)) = ⊤ := by
      refine top_le_iff.1 ?_
      have := Finset.single_le_sum (f := fun k => Ideal.exp (z k)) (fun k _ => exp_nonneg _) (Finset.mem_univ i)
      simpa [hi] using this
    rw [hs, ht, EReal.sub_top, Ideal.exp_bot, zero_mul, EReal.inv_top, mul_zero]
  · lift rowMax z to ℝ using ⟨ht, hb⟩ with M
    rw [← exp_sub_logSumExp z 0 j, ← exp_sub_logSumExp (fun k => z k - (M : EReal)) 0 j]
    rw [logSumExp_shift, logSumExp_shift, ← logSumExp_shift z M]
    generalize Ideal.log (∑ k, Ideal.exp (z k - (M : EReal))) = L
    congr 1
    generalize z j = x
    induction x <;> induction L <;> simp [← EReal.coe_sub, ← EReal.coe_add, sub_sub, add_comm]

/-! ### Normalisation over the extended reals -/

def normRowE (A : ι → κ → EReal) (i : ι) (j : κ) : EReal := A i j * (∑ j', A i j')⁻¹
def normColE (A : ι → κ → EReal) (i : ι) (j : κ) : EReal := A i j * (∑ i', A i' j)⁻¹
def normRoundE (A : ι → κ → EReal) : ι → κ → EReal := normColE (normRowE A)

/-- A real matrix, its entries read as extended reals. -/
def coeM (A : ι → κ → ℝ) (i : ι) (j : κ) : EReal := (A i j : EReal)

theorem normRowE_coe (A : ι → κ → ℝ) : normRowE (coeM A) = coeM (normRow A) := by
  funext i j; simp only [normRowE, coeM, normRow, EReal.coe_mul, EReal.coe_inv, coe_sum]
theorem normColE_coe (A : ι → κ → ℝ) : normColE (coeM A) = coeM (normCol A) := by
  funext i j; simp only [normColE, coeM, normCol, EReal.coe_mul, EReal.coe_inv, coe_sum]
theorem normRoundE_coe (A : ι → κ → ℝ) : normRoundE (coeM A) = coeM (normRound A) := by
  rw [normRoundE, normRowE_coe, normColE_coe]; rfl
theorem normRoundE_iterate_coe (A : ι → κ → ℝ) (k : ℕ) : normRoundE^[k] (coeM A) = coeM (normRound^[k] A) := by
  induction k with
  | zero => rfl
  | succ k ih => rw [Function.iterate_succ_apply', ih, normRoundE_coe, Function.iterate_succ_apply']

/-- The exponentials of a matrix's rows less their maxima, as real numbers. -/
def expRows (Z : ι → κ → EReal) (i : ι) (j : κ) : ℝ := (Ideal.exp (Z i j - rowMax (Z i))).toReal

theorem expRows_nonneg (Z : ι → κ → EReal) (i : ι) (j : κ) : 0 ≤ expRows Z i j := by
  obtain ⟨r, h0, hr⟩ := exp_sub_rowMax_coe (Z i) j
  rw [expRows, hr, EReal.toReal_coe]; exact h0
theorem coe_expRows (Z : ι → κ → EReal) (i : ι) (j : κ) : (expRows Z i j : EReal) = Ideal.exp (Z i j - rowMax (Z i)) := by
  obtain ⟨r, -, hr⟩ := exp_sub_rowMax_coe (Z i) j
  rw [expRows, hr, EReal.toReal_coe]

/-- Rounds from the exponentials of a matrix are rounds from those of its rows less their maxima. -/
theorem normRoundE_iterate_exp (Z : ι → κ → EReal) (k : ℕ) :
    normRoundE^[k + 1] (fun i j => Ideal.exp (Z i j)) = coeM (normRound^[k + 1] (expRows Z)) := by
  rw [← normRoundE_iterate_coe, Function.iterate_succ_apply, Function.iterate_succ_apply]
  congr 1
  refine congrArg normColE ?_
  funext i j
  simp only [normRowE, coeM, coe_expRows]
  exact (exp_sub_rowMax_mul_inv (Z i) j).symm

/-! ### The scales over the extended reals, a zero sum's reciprocal being plus infinity -/

/-- `B` is the column scale `b` at every column that has an entry. -/
def ScaleIs (e : ι → κ → ℝ) (B : κ → EReal) (b : κ → ℝ) : Prop := ∀ i j, e i j ≠ 0 → B j = (b j : EReal)

theorem div_one_coe {s : ℝ} (hs : s ≠ 0) : Ideal.div 1 (s : EReal) = ((s⁻¹ : ℝ) : EReal) := by
  rw [Ideal.div, if_neg (by exact_mod_cast hs), one_mul, EReal.coe_inv]

variable {e : ι → κ → ℝ}

theorem entry_scaled {B : κ → EReal} {b : κ → ℝ} (hB : ScaleIs e B b) (i : ι) (j : κ) :
    (e i j : EReal) * B j = ((e i j * b j : ℝ) : EReal) := by
  by_cases h : e i j = 0
  · simp [h]
  · rw [hB i j h, EReal.coe_mul]

theorem rowSum_scaled {B : κ → EReal} {b : κ → ℝ} (hB : ScaleIs e B b) (i : ι) :
    ∑ j, (e i j : EReal) * B j = ((∑ j, e i j * b j : ℝ) : EReal) := by
  rw [coe_sum]; exact Finset.sum_congr rfl fun j _ => entry_scaled hB i j

/-- An entry times the reciprocal of its scaled row's sum. -/
theorem entry_mul_rowScale (he : ∀ i j, 0 ≤ e i j) {B : κ → EReal} {b : κ → ℝ} (hB : ScaleIs e B b) (hb : ColOk e b)
    (i : ι) (j : κ) :
    (e i j : EReal) * Ideal.div 1 (∑ k, (e i k : EReal) * B k) = ((e i j * rowScale e b i : ℝ) : EReal) := by
  by_cases h : e i j = 0
  · simp [h]
  · rw [rowSum_scaled hB, div_one_coe (rowSum_pos he hb h).ne', ← EReal.coe_mul]; rfl

/-- One sweep's column sums, -/
theorem sweep_sum (he : ∀ i j, 0 ≤ e i j) {B : κ → EReal} {b : κ → ℝ} (hB : ScaleIs e B b) (hb : ColOk e b) (j : κ) :
    ∑ i, (e i j : EReal) * Ideal.div 1 (∑ k, (e i k : EReal) * B k) = ((∑ i, e i j * rowScale e b i : ℝ) : EReal) := by
  rw [coe_sum]; exact Finset.sum_congr rfl fun i _ => entry_mul_rowScale he hB hb i j

/-- and the scale their reciprocals make. -/
theorem sweep_scale (he : ∀ i j, 0 ≤ e i j) {B : κ → EReal} {b : κ → ℝ} (hB : ScaleIs e B b) (hb : ColOk e b) :
    ScaleIs e (fun j => Ideal.div 1 (∑ i, (e i j : EReal) * Ideal.div 1 (∑ k, (e i k : EReal) * B k))) (nextScale e b) := by
  intro i j h
  show Ideal.div 1 _ = _
  rw [sweep_sum he hB hb, div_one_coe (colSum_pos he (rowScale_ok he hb) h).ne']; rfl

/-- The last sweep: the entry, scaled by `B`, by its row's reciprocal sum, and by the last column scale over `B`. -/
theorem last_sweep (he : ∀ i j, 0 ≤ e i j) {B : κ → EReal} {b : κ → ℝ} (hB : ScaleIs e B b) (hb : ColOk e b) (i : ι) (j : κ) :
    (e i j : EReal) * B j * Ideal.div 1 (∑ k, (e i k : EReal) * B k)
        * Ideal.div (Ideal.div 1 (∑ i, (e i j : EReal) * Ideal.div 1 (∑ k, (e i k : EReal) * B k))) (B j)
      = ((e i j * (rowScale e b i * nextScale e b j) : ℝ) : EReal) := by
  by_cases h : e i j = 0
  · simp [h]
  have h1 := sweep_scale he hB hb i j h
  simp only at h1
  have hbp := hb.2 i j h
  rw [h1, rowSum_scaled hB, div_one_coe (rowSum_pos he hb h).ne', hB i j h, Ideal.div,
    if_neg (by exact_mod_cast hbp.ne'), ← EReal.coe_inv, ← EReal.coe_mul, ← EReal.coe_mul, ← EReal.coe_mul, ← EReal.coe_mul]
  congr 1
  have := hbp.ne'
  simp only [rowScale]
  field_simp

/-- The column scale after `k` sweeps. -/
def sweeps (E : ι → κ → EReal) : ℕ → κ → EReal
  | 0 => fun _ => 1
  | k + 1 => fun j => Ideal.div 1 (∑ i, E i j * Ideal.div 1 (∑ k', E i k' * sweeps E k k'))

theorem sweeps_is (he : ∀ i j, 0 ≤ e i j) : ∀ k, ScaleIs e (sweeps (coeM e) k) ((nextScale e)^[k] fun _ => 1)
  | 0 => fun _ _ _ => EReal.coe_one.symm
  | k + 1 => by
    rw [Function.iterate_succ_apply']
    exact sweep_scale he (sweeps_is he k) (iterScale_ok he k)

/-- The scaled matrix that `k` sweeps and a last one leave, -/
def scaled (E : ι → κ → EReal) (B : κ → EReal) (i : ι) (j : κ) : EReal :=
  E i j * B j * Ideal.div 1 (∑ k, E i k * B k) * Ideal.div (Ideal.div 1 (∑ i, E i j * Ideal.div 1 (∑ k, E i k * B k))) (B j)

/-- is the exponentials after `k + 1` rounds of normalisation. -/
theorem scaled_eq_rounds (Z : ι → κ → EReal) (k : ℕ) :
    scaled (fun i j => Ideal.exp (Z i j - rowMax (Z i))) (sweeps (fun i j => Ideal.exp (Z i j - rowMax (Z i))) k)
      = normRoundE^[k + 1] (fun i j => Ideal.exp (Z i j)) := by
  have hE : (fun i j => Ideal.exp (Z i j - rowMax (Z i))) = coeM (expRows Z) := by
    funext i j; exact (coe_expRows Z i j).symm
  have he := expRows_nonneg Z
  rw [normRoundE_iterate_exp, hE, normRound_iterate he]
  funext i j
  have h := last_sweep he (sweeps_is he k) (iterScale_ok he k) i j
  rw [coeM, Function.iterate_succ_apply', ← h]
  rfl

end Cert.Proof.Maths

end
-- ==== Proof.RefValue.lean ====
/-
  What the reference computes. One trip of its loop is, under the exponential, one round of row and column
  normalisation of every matrix of the stack; so the result is twenty rounds from the exponentials.
-/
module

public import proofs.«01_k».proof.Proof.Maths.Extended
public import proofs.«01_k».proof.Proof.Gen.ReferenceIdeal.Run
public import Idealize.ShloMosaic.Lib.Pointwise
public import Idealize.ShloMosaic.Lib.IdealHost
public import Idealize.ShloMosaic.Lib.ValueIdx

@[expose] public section

noncomputable section

namespace Cert.Proof.Ref

open Cert.ReferenceIdeal Cert.ReferenceIdeal.Value Cert.Proof.Maths
open Idealize.ShloMosaic Idealize.ShloMosaic.TcCoe Idealize.ShloMosaic.StableHlo Idealize.ShloMosaic.Tactic

section Generic

variable {a n m : ℕ}

/-- The shift: a value that is kept where it is finite and zero elsewhere is a real number. -/
theorem shift_real {s : Shape} (v : FVec Ideal s .f32) (hb : S_.BroadcastsInDim s ![]) (p : s.Idx) :
    ∃ M : ℝ, (select (cmpf .olt (Host.absf v) (broadcastInDim s ![] hb (constant S_ .f32 0x7F800000#32))) v
      (broadcastInDim s ![] hb (id (constant S_ .f32 0x00000000#32)))) p = (M : EReal) := by
  have hinf : Ideal.ofBits .f32 0x7F800000#32 = ⊤ := by simp [Ideal.ofBits, Ideal.ieee]
  have h0 : Ideal.ofBits .f32 0x00000000#32 = 0 := by simp [Ideal.ofBits, Ideal.ieee]
  pointwise
  generalize v p = y
  show ∃ M : ℝ, (if max (y : EReal) (-y) < Ideal.ofBits .f32 0x7F800000#32 then (y : EReal) else Ideal.ofBits .f32 0x00000000#32) = (M : EReal)
  rw [hinf, h0]
  change EReal at y
  induction y using EReal.rec with
  | bot => exact ⟨0, by simp⟩
  | top => exact ⟨0, by simp⟩
  | coe r => exact ⟨r, if_pos (max_lt (EReal.coe_lt_top r) (by rw [← EReal.coe_neg]; exact EReal.coe_lt_top _))⟩

/-- A column of sums, spread along the rows; -/
theorem spread_rows (w : FVec Ideal ⟨3, ![a, n, 1]⟩ .f32) (ha : a ≠ 1) (hn : n ≠ 1)
    (h : Shape.BroadcastsInDim ⟨3, ![a, n, 1]⟩ ⟨3, ![a, n, m]⟩ ![0, 1, 2]) (g : Fin a) (i : Fin n) (j : Fin m) :
    broadcastInDim ⟨3, ![a, n, m]⟩ ![0, 1, 2] h w (ix3 g i j) = w (ix3 g i 0) := by
  unfold broadcastInDim
  refine congrArg w (funext fun k => Fin.ext ?_)
  fin_cases k <;> simp [ha, hn] <;> rfl

/-- a row of sums, spread along the columns; -/
theorem spread_cols (w : FVec Ideal ⟨3, ![a, 1, m]⟩ .f32) (ha : a ≠ 1) (hm : m ≠ 1)
    (h : Shape.BroadcastsInDim ⟨3, ![a, 1, m]⟩ ⟨3, ![a, n, m]⟩ ![0, 1, 2]) (g : Fin a) (i : Fin n) (j : Fin m) :
    broadcastInDim ⟨3, ![a, n, m]⟩ ![0, 1, 2] h w (ix3 g i j) = w (ix3 g 0 j) := by
  unfold broadcastInDim
  refine congrArg w (funext fun k => Fin.ext ?_)
  fin_cases k <;> simp [ha, hm] <;> rfl

/-- the sums as a column, -/
theorem as_column (u : FVec Ideal ⟨2, ![a, n]⟩ .f32) (ha : a ≠ 1) (hn : n ≠ 1)
    (h : Shape.BroadcastsInDim ⟨2, ![a, n]⟩ ⟨3, ![a, n, 1]⟩ ![0, 1]) (g : Fin a) (i : Fin n) :
    broadcastInDim ⟨3, ![a, n, 1]⟩ ![0, 1] h u (ix3 g i 0) = u (ix2 g i) := by
  unfold broadcastInDim
  refine congrArg u (funext fun k => Fin.ext ?_)
  fin_cases k <;> simp [ha, hn] <;> rfl

/-- and as a row. -/
theorem as_row (u : FVec Ideal ⟨2, ![a, m]⟩ .f32) (ha : a ≠ 1) (hm : m ≠ 1)
    (h : Shape.BroadcastsInDim ⟨2, ![a, m]⟩ ⟨3, ![a, 1, m]⟩ ![0, 2]) (g : Fin a) (j : Fin m) :
    broadcastInDim ⟨3, ![a, 1, m]⟩ ![0, 2] h u (ix3 g 0 j) = u (ix2 g j) := by
  unfold broadcastInDim
  refine congrArg u (funext fun k => Fin.ext ?_)
  fin_cases k <;> simp [ha, hm] <;> rfl

theorem subf_at {s : Shape} (x y : FVec Ideal s .f32) (p : s.Idx) : subf x y p = (x p - y p : EReal) := rfl
theorem addf_at {s : Shape} (x y : FVec Ideal s .f32) (p : s.Idx) : addf x y p = (x p + y p : EReal) := rfl
theorem log_at {s : Shape} (x : FVec Ideal s .f32) (p : s.Idx) : Host.log x p = Ideal.log (x p) := rfl

theorem zero_word : Ideal.ofBits .f32 0x00000000#32 = 0 := by simp [Ideal.ofBits, Ideal.ieee]

/-- The sum of a row, -/
theorem sum_row (x : FVec Ideal ⟨3, ![a, n, m]⟩ .f32) (hr : Shape.ReducesTo ⟨3, ![a, n, m]⟩ [2] ⟨2, ![a, n]⟩)
    (hu : 0 < S_.numel) (g : Fin a) (i : Fin n) :
    Host.reduceAdd x (constant S_ .f32 0x00000000#32) hr hu (ix2 g i) = ∑ k, x (ix3 g i k) := by
  have h0 := zero_word
  pointwise

/-- and of a column. -/
theorem sum_col (x : FVec Ideal ⟨3, ![a, n, m]⟩ .f32) (hr : Shape.ReducesTo ⟨3, ![a, n, m]⟩ [1] ⟨2, ![a, m]⟩)
    (hu : 0 < S_.numel) (g : Fin a) (j : Fin m) :
    Host.reduceAdd x (constant S_ .f32 0x00000000#32) hr hu (ix2 g j) = ∑ k, x (ix3 g k j) := by
  have h0 := zero_word
  pointwise

/-- A row step at an entry. -/
theorem rowStep_apply (z : FVec Ideal ⟨3, ![a, n, m]⟩ .f32) (w : FVec Ideal ⟨3, ![a, n, 1]⟩ .f32) (ha : a ≠ 1) (hn : n ≠ 1)
    (h3 : Shape.BroadcastsInDim ⟨3, ![a, n, 1]⟩ ⟨3, ![a, n, m]⟩ ![0, 1, 2])
    (h2 : Shape.BroadcastsInDim ⟨2, ![a, n]⟩ ⟨3, ![a, n, 1]⟩ ![0, 1])
    (hr : Shape.ReducesTo ⟨3, ![a, n, m]⟩ [2] ⟨2, ![a, n]⟩) (hu : 0 < S_.numel) (g : Fin a) (i : Fin n) (j : Fin m) :
    subf z (broadcastInDim _ ![0, 1, 2] h3 (addf (Host.log (broadcastInDim _ ![0, 1] h2 (Host.reduceAdd (Host.exp (subf z
      (broadcastInDim _ ![0, 1, 2] h3 w))) (constant S_ .f32 0x00000000#32) hr hu))) w)) (ix3 g i j)
      = z (ix3 g i j) - (Ideal.log (∑ k, Ideal.exp (z (ix3 g i k) - w (ix3 g i 0))) + w (ix3 g i 0)) := by
  have h : ∀ k, (Host.exp (subf z (broadcastInDim _ ![0, 1, 2] h3 w))) (ix3 g i k) = Ideal.exp (z (ix3 g i k) - w (ix3 g i 0)) :=
    fun k => congrArg (fun t => Ideal.exp (z (ix3 g i k) - t)) (spread_rows w ha hn h3 g i k)
  rw [subf_at, spread_rows _ ha hn, addf_at, log_at, as_column _ ha hn, sum_row]
  simp only [h]

/-- A column step at an entry. -/
theorem colStep_apply (z : FVec Ideal ⟨3, ![a, n, m]⟩ .f32) (w : FVec Ideal ⟨3, ![a, 1, m]⟩ .f32) (ha : a ≠ 1) (hm : m ≠ 1)
    (h3 : Shape.BroadcastsInDim ⟨3, ![a, 1, m]⟩ ⟨3, ![a, n, m]⟩ ![0, 1, 2])
    (h2 : Shape.BroadcastsInDim ⟨2, ![a, m]⟩ ⟨3, ![a, 1, m]⟩ ![0, 2])
    (hr : Shape.ReducesTo ⟨3, ![a, n, m]⟩ [1] ⟨2, ![a, m]⟩) (hu : 0 < S_.numel) (g : Fin a) (i : Fin n) (j : Fin m) :
    subf z (broadcastInDim _ ![0, 1, 2] h3 (addf (Host.log (broadcastInDim _ ![0, 2] h2 (Host.reduceAdd (Host.exp (subf z
      (broadcastInDim _ ![0, 1, 2] h3 w))) (constant S_ .f32 0x00000000#32) hr hu))) w)) (ix3 g i j)
      = z (ix3 g i j) - (Ideal.log (∑ k, Ideal.exp (z (ix3 g k j) - w (ix3 g 0 j))) + w (ix3 g 0 j)) := by
  have h : ∀ k, (Host.exp (subf z (broadcastInDim _ ![0, 1, 2] h3 w))) (ix3 g k j) = Ideal.exp (z (ix3 g k j) - w (ix3 g 0 j)) :=
    fun k => congrArg (fun t => Ideal.exp (z (ix3 g k j) - t)) (spread_cols w ha hm h3 g k j)
  rw [subf_at, spread_cols _ ha hm, addf_at, log_at, as_row _ ha hm, sum_col]
  simp only [h]

end Generic

/-- The loop's carried array. -/
abbrev zOf (V : Valuation τ sig (Elt Ideal)) : S8x2048x2048.Idx → EReal := V (Proc.devRef .tc main_v2_2)

/-- The array between the trip's two steps, and after them. -/
abbrev rOf (V : Valuation τ sig (Elt Ideal)) : S8x2048x2048.Idx → EReal := res_main_while0b_v19 V
abbrev sOf (V : Valuation τ sig (Elt Ideal)) : S8x2048x2048.Idx → EReal := step_main_v2_2 V

/-- The trip's row step: each row less its log-sum-exp, shifted by some real number. -/
theorem v19_apply (V : Valuation τ sig (Elt Ideal)) (g : Fin 8) (i j : Fin 2048) :
    ∃ M : ℝ, rOf V (ix3 g i j)
      = zOf V (ix3 g i j) - (Ideal.log (∑ k, Ideal.exp (zOf V (ix3 g i k) - (M : EReal))) + (M : EReal)) := by
  obtain ⟨M, hM⟩ : ∃ M : ℝ, (res_main_while0b_v10 V : S8x2048x1.Idx → EReal) (ix3 g i 0) = (M : EReal) :=
    shift_real _ _ _
  refine ⟨M, ?_⟩
  rw [← hM]
  exact rowStep_apply (zOf V) (res_main_while0b_v10 V) (by decide) (by decide) _ _ _ _ g i j

/-- The trip's column step. -/
theorem step_apply (V : Valuation τ sig (Elt Ideal)) (g : Fin 8) (i j : Fin 2048) :
    ∃ M : ℝ, sOf V (ix3 g i j)
      = rOf V (ix3 g i j)
        - (Ideal.log (∑ k, Ideal.exp (rOf V (ix3 g k j) - (M : EReal))) + (M : EReal)) := by
  obtain ⟨M, hM⟩ : ∃ M : ℝ, (res_main_while0b_v25 V : S8x1x2048.Idx → EReal) (ix3 g 0 j) = (M : EReal) :=
    shift_real _ _ _
  refine ⟨M, ?_⟩
  rw [← hM]
  exact colStep_apply (res_main_while0b_v19 V) (res_main_while0b_v25 V) (by decide) (by decide) _ _ _ _ g i j

/-- The exponentials of matrix `g` of a stack. -/
def expMat (Z : S8x2048x2048.Idx → EReal) (g : Fin 8) (i j : Fin 2048) : EReal := Ideal.exp (Z (ix3 g i j))

/-- One trip, under the exponential, is one round of normalisation. -/
theorem expMat_step (V : Valuation τ sig (Elt Ideal)) (g : Fin 8) :
    expMat (zOf (STEP V)) g = normRoundE (expMat (zOf V) g) := by
  have hrow : expMat (rOf V) g = normRowE (expMat (zOf V) g) := by
    funext i j
    obtain ⟨M, hM⟩ := v19_apply V g i j
    show Ideal.exp _ = _
    rw [hM, exp_sub_logSumExp (fun k => zOf V (ix3 g i k)) M j]
    rfl
  rw [normRoundE, ← hrow]
  funext i j
  obtain ⟨M, hM⟩ := step_apply V g i j
  show Ideal.exp (zOf (STEP V) (ix3 g i j)) = _
  rw [show zOf (STEP V) = sOf V from STEP_main_v2_2 V, hM,
    exp_sub_logSumExp (fun k => rOf V (ix3 g k j)) M i]
  rfl

theorem expMat_iterate (V : Valuation τ sig (Elt Ideal)) (g : Fin 8) (k : ℕ) :
    expMat (zOf (STEP^[k] V)) g = normRoundE^[k] (expMat (zOf V) g) := by
  induction k with
  | zero => rfl
  | succ k ih => rw [Function.iterate_succ_apply', expMat_step, ih, Function.iterate_succ_apply']

variable (m : (ℓ : Loc nD τ sig) → Buf (Elt Ideal) ℓ)

/-- The loop starts from the argument: it was divided by one. -/
theorem entry_eq (c : Dev nD) :
    zOf (entryContents preI m c) = m ((c.tc : Thread nD τ).loc main_arg0) := by
  have h1 : Ideal.ofBits .f32 0x3F800000#32 = 1 := Ideal.ofBits_one_f32
  have h : zOf (entryContents preI m c) = Host.divf (F := Ideal) (φ := .f32) (m ((c.tc : Thread nD τ).loc main_arg0) : FVec Ideal S8x2048x2048 .f32)
      (broadcastInDim S8x2048x2048 ![] Facts₀.bcast_S_S8x2048x2048 (constant S_ .f32 0x3F800000#32)) := by
    simp only [zOf, preI, entryContents, afterL_cons, afterL_nil, Cert.ReferenceIdeal.Gen.hostOps0]
    after_results_entrywise []
  rw [h]
  funext p
  show Ideal.div _ (Ideal.ofBits .f32 0x3F800000#32) = _
  rw [h1, Ideal.div, if_neg one_ne_zero, inv_one, mul_one]

/-- What the reference leaves as its result. -/
abbrev result (c : Dev nD) := out_main_v3 (STEP^[20] (entryContents preI m c))

/-- The result: twenty rounds from the exponentials of each matrix of the argument. -/
theorem out_apply (c : Dev nD) (g : Fin 8) (i j : Fin 2048) :
    (out_main_v3 (STEP^[20] (entryContents preI m c)) : S8x2048x2048.Idx → EReal) (ix3 g i j)
      = normRoundE^[20] (expMat (m ((c.tc : Thread nD τ).loc main_arg0)) g) i j := by
  rw [← entry_eq m c, ← expMat_iterate]
  rfl

end Cert.Proof.Ref

end
-- ==== Proof.BlockValue.lean ====
/-
  What one grid point's operations compute, entry by entry, over the extended reals: row maxima, row and
  column sums, and the payloads built from them.
-/
module

public import proofs.«01_k».proof.Proof.Maths.Extended
public import proofs.«01_k».proof.Proof.KernelIdeal.Block
public import Idealize.ShloMosaic.Lib.Pointwise
public import Idealize.ShloMosaic.Lib.IdealHost
public import Idealize.ShloMosaic.Lib.ValueIdx
public import Idealize.ShloMosaic.Lib.ValueLayout

@[expose] public section

noncomputable section

namespace Cert.Proof.KernelIdeal

open Cert.KernelIdeal Cert.KernelIdeal.Gen Cert.Proof.Maths
open Idealize.ShloMosaic Idealize.ShloMosaic.TcCoe

/-! ## Rows and columns of a matrix of any size -/

section Generic

variable {r n : ℕ}

theorem sum_row (x : FVec Ideal ⟨2, ![r, n]⟩ .f32) (h : Shape.Reduces ⟨2, ![r, n]⟩ [1] ⟨1, ![r]⟩) (hφ) (i : Fin r) :
    multiReduction .add [1] ⟨1, ![r]⟩ x 0x00000000#32 h hφ rfl (ix1 i) = ∑ k, x (ix2 i k) := by
  pointwise

theorem sum_col (x : FVec Ideal ⟨2, ![r, n]⟩ .f32) (h : Shape.Reduces ⟨2, ![r, n]⟩ [0] ⟨1, ![n]⟩) (hφ) (j : Fin n) :
    multiReduction .add [0] ⟨1, ![n]⟩ x 0x00000000#32 h hφ rfl (ix1 j) = ∑ k, x (ix2 k j) := by
  pointwise

theorem max_row (x : FVec Ideal ⟨2, ![r, n]⟩ .f32) (h : Shape.Reduces ⟨2, ![r, n]⟩ [1] ⟨1, ![r]⟩) (hφ) (i : Fin r) :
    multiReduction .maximumf [1] ⟨1, ![r]⟩ x 0xFF800000#32 h hφ rfl (ix1 i) = rowMax fun k => x (ix2 i k) := by
  have hb : Ideal.ofBits .f32 0xFF800000#32 = ⊥ := by simp [Ideal.ofBits, Ideal.ieee]
  pointwise
  rw [hb]; rfl

theorem as_column {α : Type} (u : (⟨1, ![r]⟩ : Shape).Idx → α) (h : Shape.ShapeCasts ⟨1, ![r]⟩ ⟨2, ![r, 1]⟩) (i : Fin r) :
    shapeCast ⟨2, ![r, 1]⟩ u h (ix2 i 0) = u (ix1 i) := by
  refine shapeCast_apply u h (ix2 i 0) (ix1 i) ?_
  rw [Shape.rowMajor_val_two, Shape.rowMajor_val_one]
  show i.val = i.val * 1 + 0
  omega

theorem as_row {α : Type} (u : (⟨1, ![n]⟩ : Shape).Idx → α) (h : Shape.ShapeCasts ⟨1, ![n]⟩ ⟨2, ![1, n]⟩) (j : Fin n) :
    shapeCast ⟨2, ![1, n]⟩ u h (ix2 0 j) = u (ix1 j) := by
  refine (shapeCast_addUnit_apply (n := 1) ![n] u h (ix2 0 j)).trans (congrArg u (funext fun k => ?_))
  fin_cases k; rfl

theorem spread_rows {α : Type} (w : (⟨2, ![r, 1]⟩ : Shape).Idx → α) (h : Shape.Broadcasts ⟨2, ![r, 1]⟩ ⟨2, ![r, n]⟩) (i : Fin r) (j : Fin n) :
    broadcastTo ⟨2, ![r, n]⟩ w h (ix2 i j) = w (ix2 i 0) := by
  refine congrArg w (funext fun k => Fin.ext ?_)
  fin_cases k
  · show (dite (r = 1) _ _ : Fin r).val = i.val
    by_cases h1 : r = 1
    · subst h1; have := i.isLt; show 0 = i.val; omega
    · exact congrArg Fin.val (dif_neg h1)
  · rfl

theorem spread_cols {α : Type} (w : (⟨2, ![1, n]⟩ : Shape).Idx → α) (h : Shape.Broadcasts ⟨2, ![1, n]⟩ ⟨2, ![r, n]⟩) (i : Fin r) (j : Fin n) :
    broadcastTo ⟨2, ![r, n]⟩ w h (ix2 i j) = w (ix2 0 j) := by
  refine congrArg w (funext fun k => Fin.ext ?_)
  fin_cases k
  · rfl
  · show (dite (n = 1) _ _ : Fin n).val = j.val
    by_cases h1 : n = 1
    · subst h1; have := j.isLt; show 0 = j.val; omega
    · exact congrArg Fin.val (dif_neg h1)

end Generic

/-! ## The payloads -/

theorem one_bits : (Scalar.ofBits .f32 0x3F800000#32 : Ideal .f32) = (1 : EReal) := Ideal.ofBits_one_f32
theorem zero_bits : (Scalar.ofBits .f32 0x00000000#32 : Ideal .f32) = (0 : EReal) := by
  show Ideal.ofBits .f32 0x00000000#32 = 0
  simp [Ideal.ofBits, Ideal.ieee]

/-- One over the sum of each row of `u`, as a column. -/
theorem inv_row_sum (u : FVec Ideal S1024x2048 .f32) (i : Fin 1024) :
    divf (broadcast S1024x1 (Scalar.ofBits .f32 0x3F800000#32 : Ideal .f32))
      (shapeCast S1024x1 (multiReduction .add [1] S1024 u 0x00000000#32 reduces_S1024x2048_S1024 (.inl rfl) rfl) shapeCasts_S1024_S1024x1) (ix2 i 0)
      = Ideal.div 1 (∑ k : Fin 2048, u (ix2 i k)) := by
  show Ideal.div (Scalar.ofBits .f32 0x3F800000#32 : Ideal .f32) (shapeCast S1024x1 _ _ (ix2 i 0)) = _
  rw [one_bits, as_column, sum_row]

/-- The columns of `w`, each row divided by the sum of the matching row of `u`, added up. -/
theorem col_sum (w u : FVec Ideal S1024x2048 .f32) (j : Fin 2048) :
    shapeCast S1x2048 (multiReduction .add [0] S2048
      (mulf w (broadcastTo S1024x2048 (divf (broadcast S1024x1 (Scalar.ofBits .f32 0x3F800000#32 : Ideal .f32))
        (shapeCast S1024x1 (multiReduction .add [1] S1024 u 0x00000000#32 reduces_S1024x2048_S1024 (.inl rfl) rfl) shapeCasts_S1024_S1024x1))
        broadcasts_S1024x1_S1024x2048))
      0x00000000#32 reduces_S1024x2048_S2048 (.inl rfl) rfl) shapeCasts_S2048_S1x2048 (ix2 0 j)
      = ∑ i : Fin 1024, (w (ix2 i j) : EReal) * Ideal.div 1 (∑ k : Fin 2048, u (ix2 i k)) := by
  rw [as_row, sum_col]
  refine Finset.sum_congr rfl fun i _ => ?_
  show (w (ix2 i j) : EReal) * broadcastTo S1024x2048 _ _ (ix2 i j) = _
  rw [spread_rows, inv_row_sum]

theorem pay1_apply (j : Fin 2048) : (k0_pay1 (F := Ideal) (ix2 0 j) : EReal) = 0 := zero_bits
theorem pay6_apply (j : Fin 2048) : (k0_pay6 (F := Ideal) (ix2 0 j) : EReal) = 0 := zero_bits
theorem pay9_apply (j : Fin 2048) : (k0_pay9 (F := Ideal) (ix2 0 j) : EReal) = 0 := zero_bits

theorem pay2_apply (z : Vec Ideal S1024x2048 .f32) (i : Fin 1024) (j : Fin 2048) :
    k0_pay2 z (ix2 i j) = Ideal.exp ((z (ix2 i j) : EReal) - rowMax fun k : Fin 2048 => z (ix2 i k)) := by
  show Ideal.exp ((z (ix2 i j) : EReal) - broadcastTo S1024x2048 (shapeCast S1024x1 _ _) _ (ix2 i j)) = _
  rw [spread_rows, as_column, max_row]

theorem pay3_eq (z : Vec Ideal S1024x2048 .f32) : k0_pay3 z = k0_pay2 z := shapeCast_self _ _

theorem pay4_apply (a : FVec Ideal S1x2048 .f32) (z w : Vec Ideal S1024x2048 .f32) (j : Fin 2048) :
    (k0_pay4 a z w (ix2 0 j) : EReal)
      = a (ix2 0 j) + ∑ i : Fin 1024, (w (ix2 i j) : EReal) * Ideal.div 1 (∑ k : Fin 2048, k0_pay2 z (ix2 i k)) :=
  congrArg (fun t : EReal => (a (ix2 0 j) : EReal) + t) (col_sum w (k0_pay2 z) j)

theorem pay5_apply (a : FVec Ideal S1x2048 .f32) (j : Fin 2048) : k0_pay5 a (ix2 0 j) = Ideal.div 1 (a (ix2 0 j)) := by
  show Ideal.div (Scalar.ofBits .f32 0x3F800000#32 : Ideal .f32) _ = _
  rw [one_bits]

theorem pay8_apply (a : FVec Ideal S1x2048 .f32) (j : Fin 2048) : k0_pay8 a (ix2 0 j) = Ideal.div 1 (a (ix2 0 j)) := pay5_apply a j

/-- A matrix times a row of column scales. -/
theorem scale_cols (b : FVec Ideal S1x2048 .f32) (u : Vec Ideal S1024x2048 .f32) (i : Fin 1024) (j : Fin 2048) :
    (mulf u (broadcastTo S1024x2048 b broadcasts_S1x2048_S1024x2048) (ix2 i j) : EReal) = (u (ix2 i j) : EReal) * b (ix2 0 j) := by
  show (u (ix2 i j) : EReal) * broadcastTo S1024x2048 _ _ (ix2 i j) = _
  rw [spread_cols]

theorem pay7_apply (b a : FVec Ideal S1x2048 .f32) (u w : Vec Ideal S1024x2048 .f32) (j : Fin 2048) :
    (k0_pay7 b a u w (ix2 0 j) : EReal)
      = a (ix2 0 j) + ∑ i : Fin 1024, (w (ix2 i j) : EReal) * Ideal.div 1 (∑ k : Fin 2048, (u (ix2 i k) : EReal) * b (ix2 0 k)) := by
  refine congrArg (fun t : EReal => (a (ix2 0 j) : EReal) + t) ((col_sum w (mulf u (broadcastTo S1024x2048 b broadcasts_S1x2048_S1024x2048)) j).trans ?_)
  simp only [scale_cols]

theorem pay10_apply (b a : FVec Ideal S1x2048 .f32) (u w : Vec Ideal S1024x2048 .f32) (j : Fin 2048) :
    (k0_pay10 b a u w (ix2 0 j) : EReal)
      = a (ix2 0 j) + ∑ i : Fin 1024, (w (ix2 i j) : EReal) * Ideal.div 1 (∑ k : Fin 2048, (u (ix2 i k) : EReal) * b (ix2 0 k)) :=
  pay7_apply b a u w j

theorem pay11_apply (b c : FVec Ideal S1x2048 .f32) (u : Vec Ideal S1024x2048 .f32) (i : Fin 1024) (j : Fin 2048) :
    (k0_pay11 b c u (ix2 i j) : EReal)
      = (u (ix2 i j) : EReal) * b (ix2 0 j) * Ideal.div 1 (∑ k : Fin 2048, (u (ix2 i k) : EReal) * b (ix2 0 k))
        * Ideal.div (Ideal.div 1 (c (ix2 0 j))) (b (ix2 0 j)) := by
  unfold k0_pay11
  rw [shapeCast_self]
  show (mulf u (broadcastTo S1024x2048 b broadcasts_S1x2048_S1024x2048) (ix2 i j) : EReal) * broadcastTo S1024x2048 _ _ (ix2 i j)
    * broadcastTo S1024x2048 _ _ (ix2 i j) = _
  rw [spread_rows, spread_cols, inv_row_sum, scale_cols]
  simp only [scale_cols]
  show _ * Ideal.div (Ideal.div (Scalar.ofBits .f32 0x3F800000#32 : Ideal .f32) _) _ = _
  rw [one_bits]

end Cert.Proof.KernelIdeal

end
-- ==== Proof.StripValue.lean ====
/-
  A matrix of 2048 rows as two strips of 1024: its entries, its column sums, and the scaled matrix one grid
  point leaves. It is twenty rounds of row and column normalisation of the exponentials.
-/
module

public import proofs.«01_k».proof.Proof.BlockValue

@[expose] public section

noncomputable section

namespace Cert.Proof.KernelIdeal

open Cert.KernelIdeal Cert.KernelIdeal.Gen Cert.Proof.Maths
open Idealize.ShloMosaic Idealize.ShloMosaic.TcCoe

/-! ## Strips -/

/-- Row `r` of strip `k`, as a row of the matrix. -/
def rowOf (k : ℕ) (r : Fin 1024) : Fin 2048 := ⟨1024 * (k % 2) + r.val, by have := r.isLt; omega⟩

theorem strip_apply (z : Vec Ideal S2048x2048 .f32) (k : ℕ) (r : Fin 1024) (j : Fin 2048) :
    strip z k (ix2 r j) = z (ix2 (rowOf k r) j) := by
  refine congrArg z (funext fun a => Fin.ext ?_)
  fin_cases a
  · show 1024 * (k % 2) + 1 * r.val = 1024 * (k % 2) + r.val; omega
  · show 0 + 1 * j.val = j.val; omega

/-- A strip is untouched by a write of the other. -/
theorem strip_setStrip_of_ne (z : Vec Ideal S2048x2048 .f32) (k k' : ℕ) (w : Vec Ideal S1024x2048 .f32) (h : k % 2 ≠ k' % 2) :
    strip (setStrip z k w) k' = strip z k' :=
  VecWindow.window_put_of_disjoint (s := S2048x2048) z (stripOff k) S1024x2048.size (stripOff k') S1024x2048.size (stripOff_inb k') w 0
    (by show 1024 * (k' % 2) + 1024 ≤ 1024 * (k % 2) ∨ 1024 * (k % 2) + 1024 ≤ 1024 * (k' % 2); omega)

/-- Every row lies in one of the strips. -/
theorem exists_rowOf (i : Fin 2048) : ∃ k r, k < 2 ∧ i = rowOf k r := by
  refine ⟨i.val / 1024, ⟨i.val % 1024, Nat.mod_lt _ (by norm_num)⟩, ?_, Fin.ext ?_⟩
  · have := i.isLt; omega
  · show i.val = 1024 * (i.val / 1024 % 2) + i.val % 1024
    have := i.isLt; omega

/-- A sum over the rows is the sum over the first strip and that over the second. -/
theorem sum_rows (f : Fin 2048 → EReal) : ∑ i, f i = ∑ r, f (rowOf 0 r) + ∑ r, f (rowOf 1 r) := by
  refine (Fin.sum_univ_add (a := 1024) (b := 1024) f).trans (congrArg₂ (fun s t : EReal => s + t) ?_ ?_)
  · refine Finset.sum_congr rfl fun r _ => congrArg f (Fin.ext ?_)
    show r.val = 1024 * (0 % 2) + r.val; omega
  · refine Finset.sum_congr rfl fun r _ => congrArg f (Fin.ext ?_)
    show 1024 + r.val = 1024 * (1 % 2) + r.val; omega

/-- A running sum that starts at zero and takes in one strip at a time ends at the sum over the rows. -/
theorem two_strips (f : Fin 2048 → EReal) (s : ℕ → EReal) (h0 : s 0 = 0) (h : ∀ k, k < 2 → s (k + 1) = s k + ∑ r, f (rowOf k r)) :
    s 2 = ∑ i, f i := by
  rw [h 1 (by norm_num), h 0 (by norm_num), h0, zero_add, sum_rows]

/-! ## The sweeps -/

/-- A matrix's entries by row and column. -/
def ent (z : Vec Ideal S2048x2048 .f32) (i j : Fin 2048) : EReal := z (ix2 i j)

/-- What the last sum of one round adds up. -/
def colTotal (E : Fin 2048 → Fin 2048 → EReal) (B : Fin 2048 → EReal) (j : Fin 2048) : EReal :=
  ∑ i, E i j * Ideal.div 1 (∑ k, E i k * B k)

/-- The first sweep writes each strip once. -/
theorem strip_expTo (z : Vec Ideal S2048x2048 .f32) (k : ℕ) (hk : k < 2) : strip (expTo z k) k = strip z k := by
  obtain rfl | rfl : k = 0 ∨ k = 1 := by omega
  · rfl
  · exact strip_setStrip_of_ne z 0 1 _ (by norm_num)

theorem strip_blockE (z : Vec Ideal S2048x2048 .f32) (k : ℕ) (hk : k < 2) : strip (blockE z) k = k0_pay2 (strip z k) := by
  rw [← pay3_eq, ← strip_expTo z k hk]
  obtain rfl | rfl : k = 0 ∨ k = 1 := by omega
  · exact (strip_setStrip_of_ne (expTo z 1) 1 0 _ (by norm_num)).trans (strip_setStrip z 0 _)
  · exact strip_setStrip (expTo z 1) 1 _

/-- After the first sweep: each entry's exponential, relative to its row's maximum. -/
theorem blockE_apply (z : Vec Ideal S2048x2048 .f32) (i j : Fin 2048) :
    ent (blockE z) i j = Ideal.exp (ent z i j - rowMax (ent z i)) := by
  obtain ⟨k, r, hk, rfl⟩ := exists_rowOf i
  refine (strip_apply (blockE z) k r j).symm.trans ?_
  rw [strip_blockE z k hk, pay2_apply]
  simp only [strip_apply]
  rfl

/-- The columns of one strip, normalised with column scale `B`, added up. -/
theorem strip_total (e : Vec Ideal S2048x2048 .f32) (b : FVec Ideal S1x2048 .f32) (k : ℕ) (j : Fin 2048) :
    (∑ r : Fin 1024, (strip e k (ix2 r j) : EReal) * Ideal.div 1 (∑ l : Fin 2048, (strip e k (ix2 r l) : EReal) * b (ix2 0 l)))
      = ∑ r, ent e (rowOf k r) j * Ideal.div 1 (∑ l, ent e (rowOf k r) l * b (ix2 0 l)) := by
  simp only [strip_apply, ent]

theorem strip_first_total (e : Vec Ideal S2048x2048 .f32) (k : ℕ) (j : Fin 2048) :
    (∑ r : Fin 1024, (strip e k (ix2 r j) : EReal) * Ideal.div 1 (∑ l : Fin 2048, (strip e k (ix2 r l) : EReal)))
      = ∑ r, ent e (rowOf k r) j * Ideal.div 1 (∑ l, ent e (rowOf k r) l * 1) := by
  simp only [strip_apply, ent, mul_one]

theorem firstTo_step (z : Vec Ideal S2048x2048 .f32) (j : Fin 2048) (k : ℕ) (hk : k < 2) :
    (firstTo z (k + 1) (ix2 0 j) : EReal) = firstTo z k (ix2 0 j)
      + ∑ r, ent (blockE z) (rowOf k r) j * Ideal.div 1 (∑ l, ent (blockE z) (rowOf k r) l * 1) := by
  rw [← strip_first_total, strip_blockE z k hk, ← strip_expTo z k hk, ← pay3_eq, firstTo]
  exact (pay4_apply (firstTo z k) (strip (expTo z k) k) (k0_pay3 (strip (expTo z k) k)) j).trans (by rw [pay3_eq])

theorem firstTo_apply (z : Vec Ideal S2048x2048 .f32) (j : Fin 2048) :
    (firstTo z 2 (ix2 0 j) : EReal) = colTotal (ent (blockE z)) (fun _ => 1) j :=
  two_strips (fun i => ent (blockE z) i j * Ideal.div 1 (∑ l, ent (blockE z) i l * 1)) (fun k => firstTo z k (ix2 0 j))
    (pay1_apply j) (firstTo_step z j)

theorem sweepTo_apply (e : Vec Ideal S2048x2048 .f32) (b : FVec Ideal S1x2048 .f32) (j : Fin 2048) :
    (sweepTo e b 2 (ix2 0 j) : EReal) = colTotal (ent e) (fun l => b (ix2 0 l)) j :=
  two_strips (fun i => ent e i j * Ideal.div 1 (∑ l, ent e i l * b (ix2 0 l))) (fun k => sweepTo e b k (ix2 0 j))
    (pay6_apply j) fun k _ => (pay7_apply b (sweepTo e b k) (strip e k) (strip e k) j).trans
      (congrArg (fun t : EReal => (sweepTo e b k (ix2 0 j) : EReal) + t) (strip_total e b k j))

theorem lastTo_apply (e : Vec Ideal S2048x2048 .f32) (b : FVec Ideal S1x2048 .f32) (j : Fin 2048) :
    (lastTo e b 2 (ix2 0 j) : EReal) = colTotal (ent e) (fun l => b (ix2 0 l)) j :=
  two_strips (fun i => ent e i j * Ideal.div 1 (∑ l, ent e i l * b (ix2 0 l))) (fun k => lastTo e b k (ix2 0 j))
    (pay9_apply j) fun k _ => (pay10_apply b (lastTo e b k) (strip e k) (strip e k) j).trans
      (congrArg (fun t : EReal => (lastTo e b k (ix2 0 j) : EReal) + t) (strip_total e b k j))

/-- The column scale after `k` refining sweeps. -/
theorem scaleTo_apply (z : Vec Ideal S2048x2048 .f32) (k : ℕ) :
    (fun j => (scaleTo (blockE z) (k0_pay5 (firstTo z 2)) k (ix2 0 j) : EReal)) = sweeps (ent (blockE z)) (k + 1) := by
  induction k with
  | zero =>
    funext j
    refine (pay5_apply (firstTo z 2) j).trans ?_
    rw [firstTo_apply]
    rfl
  | succ k ih =>
    funext j
    refine (pay8_apply _ j).trans ?_
    rw [sweepTo_apply, ih]
    rfl

theorem blockB_apply (z : Vec Ideal S2048x2048 .f32) : (fun j => (blockB z (ix2 0 j) : EReal)) = sweeps (ent (blockE z)) 19 :=
  scaleTo_apply z 18

theorem strip_outTo (e : Vec Ideal S2048x2048 .f32) (b c : FVec Ideal S1x2048 .f32) (k : ℕ) (hk : k < 2) :
    strip (outTo e b c 2) k = k0_pay11 b c (strip e k) := by
  obtain rfl | rfl : k = 0 ∨ k = 1 := by omega
  · exact (strip_setStrip_of_ne (outTo e b c 1) 1 0 _ (by norm_num)).trans (strip_setStrip e 0 _)
  · refine (strip_setStrip (outTo e b c 1) 1 _).trans (congrArg (k0_pay11 b c) ?_)
    exact strip_setStrip_of_ne e 0 1 _ (by norm_num)

/-- What one grid point leaves: twenty rounds of the exponentials. -/
theorem blockOut_apply (z : Vec Ideal S2048x2048 .f32) (i j : Fin 2048) :
    blockOut z (ix2 i j) = normRoundE^[20] (fun i j => Ideal.exp (ent z i j)) i j := by
  have hE : ent (blockE z) = fun i j => Ideal.exp (ent z i j - rowMax (ent z i)) := funext fun i => funext fun j => blockE_apply z i j
  have h := congrFun (congrFun (scaled_eq_rounds (ent z) 19) i) j
  rw [← hE, ← blockB_apply] at h
  refine Eq.trans ?_ h
  have hC : blockC z (ix2 0 j) = colTotal (ent (blockE z)) (fun l => blockB z (ix2 0 l)) j := lastTo_apply (blockE z) (blockB z) j
  obtain ⟨k, r, hk, rfl⟩ := exists_rowOf i
  refine (strip_apply (blockOut z) k r j).symm.trans ?_
  unfold blockOut
  rw [strip_outTo _ _ _ k hk, pay11_apply, hC]
  simp only [strip_apply]
  rfl

end Cert.Proof.KernelIdeal

end
-- ==== Proof.Equal.lean ====
/-
  The value claim: over the extended reals the kernel and the reference end with the same result. Each matrix of
  the batch is twenty rounds of row and column normalisation of its exponentials, on both sides.
-/
module

public import proofs.«01_k».proof.Defs
public import proofs.«01_k».proof.Proof.RefValue
public import proofs.«01_k».proof.Proof.StripValue
public import proofs.«01_k».proof.Proof.KernelIdeal.Launch

@[expose] public section

noncomputable section

namespace Cert.Proof

open Idealize.ShloMosaic Idealize.ShloMosaic.TcCoe Idealize.SL.Sem Cert.Proof.Maths

/-- The kernel's result at one entry. -/
theorem kernel_apply (c : Dev Cert.KernelIdeal.nD) (X : Cert.KernelIdeal.S8x2048x2048.Idx → EReal) (g : Fin 8) (i j : Fin 2048) :
    (KernelIdeal.finalO (F := Ideal) c X : Cert.KernelIdeal.S8x2048x2048.Idx → EReal) (ix3 g i j)
      = normRoundE^[20] (Ref.expMat X g) i j := by
  have hmat : ∀ y : Cert.KernelIdeal.S8x2048x2048.Idx, KernelIdeal.inMat y = ix2 (y 1) (y 2) := fun y =>
    funext fun a => by fin_cases a <;> rfl
  have hcell : ∀ i j : Fin 2048, KernelIdeal.cell g (ix2 i j) = ix3 g i j := fun i j =>
    funext fun a => by fin_cases a <;> rfl
  have hX : (fun i j => Ideal.exp (KernelIdeal.ent (KernelIdeal.matX (F := Ideal) c X g.val) i j)) = Ref.expMat X g := by
    funext i j
    unfold KernelIdeal.ent Ref.expMat
    rw [KernelIdeal.matX_apply, hcell]
  rw [← hX, ← KernelIdeal.blockOut_apply]
  exact congrArg (KernelIdeal.matO (F := Ideal) c X g.val) (hmat (ix3 g i j))

/-- The two results agree when the arguments do. -/
theorem results_agree (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ) (c : Dev Cert.KernelIdeal.nD)
    (h : m' ((c.tc : Thread Cert.ReferenceIdeal.nD Cert.ReferenceIdeal.τ).loc Cert.ReferenceIdeal.main_arg0)
      = m ((c.tc : Thread Cert.KernelIdeal.nD Cert.KernelIdeal.τ).loc Cert.KernelIdeal.main_arg0)) :
    (Ref.result m' c : Cert.KernelIdeal.S8x2048x2048.Idx → EReal) = KernelIdeal.finalO (F := Ideal) c (KernelIdeal.argX m c) := by
  funext y
  rw [eq_ix3 y]
  refine (Ref.out_apply m' c (y 0) (y 1) (y 2)).trans ((kernel_apply c (KernelIdeal.argX m c) (y 0) (y 1) (y 2)).trans ?_).symm
  rw [h]

theorem algebraic : Cert.algebraic_KernelIdeal_ReferenceIdeal := fun m g m' g' _ h =>
  ⟨fun c => KernelIdeal.finalO (F := Ideal) c (KernelIdeal.argX m c),
    (θ_run Cert.KernelIdeal.defs _ _).mono (fun _ hr c => hr.1 c) (KernelIdeal.run_main (F := Ideal) m g),
    (θ_run Cert.ReferenceIdeal.defs _ _).mono (fun _ hr c => ⟨(hr c).1.trans (results_agree m m' c (h c)), (hr c).2⟩)
      (Cert.ReferenceIdeal.Value.run (F := Ideal) m' g')⟩

end Cert.Proof

end
-- ==== Proof.lean ====
/-
  The claim, assembled: the three frames, that idealizing changed no operation, and the
  equality of the two results over the extended reals.
-/
module

public import proofs.«01_k».proof.Defs
public import proofs.«01_k».proof.Proof.Frames
public import proofs.«01_k».proof.Proof.Equal

@[expose] public section

namespace Cert.Proof

theorem claim : Cert.Claim :=
  ⟨Cert.Kernel.Gen.facts, Cert.KernelIdeal.Gen.facts, Cert.ReferenceIdeal.Gen.facts,
    frame_kernel, frame_kernelIdeal, frame_referenceIdeal, trivial, algebraic⟩

end Cert.Proof

end
